-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S32768x4608 : Shape := ⟨2, ![32768, 4608]⟩
abbrev S32768x128 : Shape := ⟨2, ![32768, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S32768x16 : Shape := ⟨2, ![32768, 16]⟩
abbrev S512x64x8x2 : Shape := ⟨4, ![512, 64, 8, 2]⟩
abbrev S8x512x2x64 : Shape := ⟨4, ![8, 512, 2, 64]⟩
abbrev S8x65536 : Shape := ⟨2, ![8, 65536]⟩
abbrev S_ : Shape := ⟨0, ![]⟩
abbrev S128 : Shape := ⟨1, ![128]⟩
abbrev S1x128 : Shape := ⟨2, ![1, 128]⟩
abbrev S8x2 : Shape := ⟨2, ![8, 2]⟩
abbrev S8x2x64 : Shape := ⟨3, ![8, 2, 64]⟩
abbrev S8x128 : Shape := ⟨2, ![8, 128]⟩
abbrev S16x64 : Shape := ⟨2, ![16, 64]⟩
abbrev S1x1024 : Shape := ⟨2, ![1, 1024]⟩
abbrev S128x1 : Shape := ⟨2, ![128, 1]⟩
abbrev S128x1024 : Shape := ⟨2, ![128, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S128x128 : Shape := ⟨2, ![128, 128]⟩
abbrev S1x1536 : Shape := ⟨2, ![1, 1536]⟩
abbrev S32768x1024 : Shape := ⟨2, ![32768, 1024]⟩
abbrev S256x1024 : Shape := ⟨2, ![256, 1024]⟩
abbrev S256x1536 : Shape := ⟨2, ![256, 1536]⟩
abbrev S256x128 : Shape := ⟨2, ![256, 128]⟩
abbrev S8x512 : Shape := ⟨2, ![8, 512]⟩
abbrev S264x1536 : Shape := ⟨2, ![264, 1536]⟩
abbrev S2x128x512 : Shape := ⟨3, ![2, 128, 512]⟩
abbrev S8x1536 : Shape := ⟨2, ![8, 1536]⟩
abbrev S64x128 : Shape := ⟨2, ![64, 128]⟩
abbrev S64x1536 : Shape := ⟨2, ![64, 1536]⟩
abbrev S64x1024 : Shape := ⟨2, ![64, 1024]⟩
abbrev S64x256 : Shape := ⟨2, ![64, 256]⟩
abbrev S1x128x512 : Shape := ⟨3, ![1, 128, 512]⟩
abbrev S128x512 : Shape := ⟨2, ![128, 512]⟩
abbrev S64x512 : Shape := ⟨2, ![64, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 158
  | .vmem => 24
  | .smem => 0
  | _ => 0

abbrev hbmTy0_0 (i : Nat) : BufTy := match i % 128 with
  | 0 => ⟨S32768x4608, .f32⟩
  | 1 => ⟨S32768x128, .f32⟩
  | 2 => ⟨S4x1536, .f32⟩
  | 3 => ⟨S1536, .f32⟩
  | 4 => ⟨S16, .f32⟩
  | 5 => ⟨S16, .f32⟩
  | 6 => ⟨S16, .f32⟩
  | 7 => ⟨S1024, .f32⟩
  | 8 => ⟨S32768x16, .f32⟩
  | 9 => ⟨S512x64x8x2, .f32⟩
  | 10 => ⟨S8x512x2x64, .f32⟩
  | 11 => ⟨S8x65536, .f32⟩
  | 12 => ⟨S_, .i32⟩
  | 13 => ⟨S_, .f32⟩
  | 14 => ⟨S128, .f32⟩
  | 15 => ⟨S1x128, .f32⟩
  | 16 => ⟨S_, .i32⟩
  | 17 => ⟨S_, .f32⟩
  | 18 => ⟨S128, .f32⟩
  | 19 => ⟨S1x128, .f32⟩
  | 20 => ⟨S8x2, .f32⟩
  | 21 => ⟨S8x2x64, .f32⟩
  | 22 => ⟨S8x128, .f32⟩
  | 23 => ⟨S8x2, .f32⟩
  | 24 => ⟨S8x2x64, .f32⟩
  | 25 => ⟨S8x128, .f32⟩
  | 26 => ⟨S16x64, .f32⟩
  | 27 => ⟨S1024, .f32⟩
  | 28 => ⟨S1x1024, .f32⟩
  | 29 => ⟨S1024, .i32⟩
  | 30 => ⟨S_, .i32⟩
  | 31 => ⟨S_, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i1⟩
  | 38 => ⟨S1024, .i32⟩
  | 39 => ⟨S1024, .i32⟩
  | 40 => ⟨S_, .i32⟩
  | 41 => ⟨S1024, .i32⟩
  | 42 => ⟨S1024, .i1⟩
  | 43 => ⟨S1024, .i1⟩
  | 44 => ⟨S_, .i32⟩
  | 45 => ⟨S1024, .i32⟩
  | 46 => ⟨S1024, .i32⟩
  | 47 => ⟨S1024, .i32⟩
  | 48 => ⟨S128, .i32⟩
  | 49 => ⟨S128x1, .i32⟩
  | 50 => ⟨S1x1024, .i32⟩
  | 51 => ⟨S128x1024, .i32⟩
  | 52 => ⟨S128x1024, .i32⟩
  | 53 => ⟨S128x1024, .i1⟩
  | 54 => ⟨S128x1024, .f32⟩
  | 55 => ⟨S64, .i32⟩
  | 56 => ⟨S64x1, .i32⟩
  | 57 => ⟨S1x64, .i32⟩
  | 58 => ⟨S64x64, .i32⟩
  | 59 => ⟨S64x64, .i32⟩
  | 60 => ⟨S64x64, .i1⟩
  | 61 => ⟨S64x64, .f32⟩
  | 62 => ⟨S128, .i32⟩
  | 63 => ⟨S128x1, .i32⟩
  | 64 => ⟨S_, .i32⟩
  | 65 => ⟨S_, .i32⟩
  | 66 => ⟨S128x1, .i32⟩
  | 67 => ⟨S128x1, .i32⟩
  | 68 => ⟨S128x1, .i32⟩
  | 69 => ⟨S_, .i32⟩
  | 70 => ⟨S128x1, .i32⟩
  | 71 => ⟨S128x1, .i1⟩
  | 72 => ⟨S128x1, .i32⟩
  | 73 => ⟨S128x1, .i32⟩
  | 74 => ⟨S_, .i32⟩
  | 75 => ⟨S128x1, .i32⟩
  | 76 => ⟨S128x1, .i1⟩
  | 77 => ⟨S128x1, .i1⟩
  | 78 => ⟨S_, .i32⟩
  | 79 => ⟨S128x1, .i32⟩
  | 80 => ⟨S128x1, .i32⟩
  | 81 => ⟨S128x1, .i32⟩
  | 82 => ⟨S1x128, .i32⟩
  | 83 => ⟨S_, .i32⟩
  | 84 => ⟨S_, .i32⟩
  | 85 => ⟨S1x128, .i32⟩
  | 86 => ⟨S1x128, .i32⟩
  | 87 => ⟨S1x128, .i32⟩
  | 88 => ⟨S_, .i32⟩
  | 89 => ⟨S1x128, .i32⟩
  | 90 => ⟨S1x128, .i1⟩
  | 91 => ⟨S1x128, .i32⟩
  | 92 => ⟨S1x128, .i32⟩
  | 93 => ⟨S_, .i32⟩
  | 94 => ⟨S1x128, .i32⟩
  | 95 => ⟨S1x128, .i1⟩
  | 96 => ⟨S1x128, .i1⟩
  | 97 => ⟨S_, .i32⟩
  | 98 => ⟨S1x128, .i32⟩
  | 99 => ⟨S1x128, .i32⟩
  | 100 => ⟨S1x128, .i32⟩
  | 101 => ⟨S128x128, .i32⟩
  | 102 => ⟨S128x128, .i32⟩
  | 103 => ⟨S128x128, .i1⟩
  | 104 => ⟨S128x1, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S128x1, .i32⟩
  | 112 => ⟨S128x1, .i32⟩
  | 113 => ⟨S_, .i32⟩
  | 114 => ⟨S128x1, .i32⟩
  | 115 => ⟨S128x1, .i1⟩
  | 116 => ⟨S_, .i32⟩
  | 117 => ⟨S128x1, .i32⟩
  | 118 => ⟨S128x1, .i1⟩
  | 119 => ⟨S_, .i32⟩
  | 120 => ⟨S_, .i1⟩
  | 121 => ⟨S128x1, .i1⟩
  | 122 => ⟨S128x1, .i1⟩
  | 123 => ⟨S128x1, .i1⟩
  | 124 => ⟨S128x1, .i32⟩
  | 125 => ⟨S128x1, .i32⟩
  | 126 => ⟨S128x1, .i32⟩
  | 127 => ⟨S1x128, .i32⟩
  | _ => ⟨S32768x4608, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S1x128, .i32⟩
  | 7 => ⟨S1x128, .i32⟩
  | 8 => ⟨S_, .i32⟩
  | 9 => ⟨S1x128, .i32⟩
  | 10 => ⟨S1x128, .i1⟩
  | 11 => ⟨S_, .i32⟩
  | 12 => ⟨S1x128, .i32⟩
  | 13 => ⟨S1x128, .i1⟩
  | 14 => ⟨S_, .i32⟩
  | 15 => ⟨S_, .i1⟩
  | 16 => ⟨S1x128, .i1⟩
  | 17 => ⟨S1x128, .i1⟩
  | 18 => ⟨S1x128, .i1⟩
  | 19 => ⟨S1x128, .i32⟩
  | 20 => ⟨S1x128, .i32⟩
  | 21 => ⟨S1x128, .i32⟩
  | 22 => ⟨S128x128, .i32⟩
  | 23 => ⟨S128x128, .i32⟩
  | 24 => ⟨S128x128, .i1⟩
  | 25 => ⟨S128x128, .i1⟩
  | 26 => ⟨S128x128, .f32⟩
  | 27 => ⟨S1x1536, .f32⟩
  | 28 => ⟨S1x1024, .f32⟩
  | 29 => ⟨S32768x1024, .f32⟩
  | _ => ⟨S32768x4608, .f32⟩

abbrev hbmTy (i : Nat) : BufTy := match i / 128 with
  | 0 => hbmTy0_0 i
  | 1 => hbmTy0_1 i
  | _ => ⟨S32768x4608, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1536, .f32⟩
  | .local _ .vmem, ⟨3, _⟩ => ⟨S256x1536, .f32⟩
  | .local _ .vmem, ⟨4, _⟩ => ⟨S256x128, .f32⟩
  | .local _ .vmem, ⟨5, _⟩ => ⟨S256x128, .f32⟩
  | .local _ .vmem, ⟨6, _⟩ => ⟨S8x512, .f32⟩
  | .local _ .vmem, ⟨7, _⟩ => ⟨S8x512, .f32⟩
  | .local _ .vmem, ⟨8, _⟩ => ⟨S4x1536, .f32⟩
  | .local _ .vmem, ⟨9, _⟩ => ⟨S1x1536, .f32⟩
  | .local _ .vmem, ⟨10, _⟩ => ⟨S1x128, .f32⟩
  | .local _ .vmem, ⟨11, _⟩ => ⟨S1x128, .f32⟩
  | .local _ .vmem, ⟨12, _⟩ => ⟨S8x128, .f32⟩
  | .local _ .vmem, ⟨13, _⟩ => ⟨S8x128, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | .local _ .vmem, ⟨17, _⟩ => ⟨S64x64, .f32⟩
  | .local _ .vmem, ⟨18, _⟩ => ⟨S128x128, .f32⟩
  | .local _ .vmem, ⟨19, _⟩ => ⟨S256x1024, .f32⟩
  | .local _ .vmem, ⟨20, _⟩ => ⟨S256x1024, .f32⟩
  | .local _ .vmem, ⟨21, _⟩ => ⟨S264x1536, .f32⟩
  | .local _ .vmem, ⟨22, _⟩ => ⟨S2x128x512, .f32⟩
  | .local _ .vmem, ⟨23, _⟩ => ⟨S256x1024, .f32⟩
  | _, _ => ⟨S32768x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_2 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_c : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_0 : Ref sig .tc := ⟨.hbm, 78, rfl⟩
abbrev main_call3_v12 : Ref sig .tc := ⟨.hbm, 79, rfl⟩
abbrev main_call3_v13 : Ref sig .tc := ⟨.hbm, 80, rfl⟩
abbrev main_v35 : Ref sig .tc := ⟨.hbm, 81, rfl⟩
abbrev main_v36 : Ref sig .tc := ⟨.hbm, 82, rfl⟩
abbrev main_c_3 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_v6 : Ref sig .tc := ⟨.hbm, 90, rfl⟩
abbrev main_call4_v7 : Ref sig .tc := ⟨.hbm, 91, rfl⟩
abbrev main_call4_v8 : Ref sig .tc := ⟨.hbm, 92, rfl⟩
abbrev main_call4_c : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_0 : Ref sig .tc := ⟨.hbm, 97, rfl⟩
abbrev main_call4_v12 : Ref sig .tc := ⟨.hbm, 98, rfl⟩
abbrev main_call4_v13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_c_4 : Ref sig .tc := ⟨.hbm, 105, rfl⟩
abbrev main_call5_v0 : Ref sig .tc := ⟨.hbm, 106, rfl⟩
abbrev main_call5_c : Ref sig .tc := ⟨.hbm, 107, rfl⟩
abbrev main_call5_v1 : Ref sig .tc := ⟨.hbm, 108, rfl⟩
abbrev main_call5_c_0 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_call5_c_1 : Ref sig .tc := ⟨.hbm, 113, rfl⟩
abbrev main_call5_v5 : Ref sig .tc := ⟨.hbm, 114, rfl⟩
abbrev main_call5_v6 : Ref sig .tc := ⟨.hbm, 115, rfl⟩
abbrev main_call5_c_2 : Ref sig .tc := ⟨.hbm, 116, rfl⟩
abbrev main_call5_v7 : Ref sig .tc := ⟨.hbm, 117, rfl⟩
abbrev main_call5_v8 : Ref sig .tc := ⟨.hbm, 118, rfl⟩
abbrev main_call5_c_3 : Ref sig .tc := ⟨.hbm, 119, rfl⟩
abbrev main_call5_v9 : Ref sig .tc := ⟨.hbm, 120, rfl⟩
abbrev main_call5_v10 : Ref sig .tc := ⟨.hbm, 121, rfl⟩
abbrev main_call5_v11 : Ref sig .tc := ⟨.hbm, 122, rfl⟩
abbrev main_call5_v12 : Ref sig .tc := ⟨.hbm, 123, rfl⟩
abbrev main_call5_v13 : Ref sig .tc := ⟨.hbm, 124, rfl⟩
abbrev main_call5_v14 : Ref sig .tc := ⟨.hbm, 125, rfl⟩
abbrev main_v42 : Ref sig .tc := ⟨.hbm, 126, rfl⟩
abbrev main_v43 : Ref sig .tc := ⟨.hbm, 127, rfl⟩
abbrev main_c_5 : Ref sig .tc := ⟨.hbm, 128, rfl⟩
abbrev main_call6_v0 : Ref sig .tc := ⟨.hbm, 129, rfl⟩
abbrev main_call6_c : Ref sig .tc := ⟨.hbm, 130, rfl⟩
abbrev main_call6_v1 : Ref sig .tc := ⟨.hbm, 131, rfl⟩
abbrev main_call6_c_0 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_call6_c_1 : Ref sig .tc := ⟨.hbm, 136, rfl⟩
abbrev main_call6_v5 : Ref sig .tc := ⟨.hbm, 137, rfl⟩
abbrev main_call6_v6 : Ref sig .tc := ⟨.hbm, 138, rfl⟩
abbrev main_call6_c_2 : Ref sig .tc := ⟨.hbm, 139, rfl⟩
abbrev main_call6_v7 : Ref sig .tc := ⟨.hbm, 140, rfl⟩
abbrev main_call6_v8 : Ref sig .tc := ⟨.hbm, 141, rfl⟩
abbrev main_call6_c_3 : Ref sig .tc := ⟨.hbm, 142, rfl⟩
abbrev main_call6_v9 : Ref sig .tc := ⟨.hbm, 143, rfl⟩
abbrev main_call6_v10 : Ref sig .tc := ⟨.hbm, 144, rfl⟩
abbrev main_call6_v11 : Ref sig .tc := ⟨.hbm, 145, rfl⟩
abbrev main_call6_v12 : Ref sig .tc := ⟨.hbm, 146, rfl⟩
abbrev main_call6_v13 : Ref sig .tc := ⟨.hbm, 147, rfl⟩
abbrev main_call6_v14 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S32768x4608 : Shape := ⟨2, ![32768, 4608]⟩
abbrev S32768x128 : Shape := ⟨2, ![32768, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S32768x1536 : Shape := ⟨2, ![32768, 1536]⟩
abbrev S2x16384x1536 : Shape := ⟨3, ![2, 16384, 1536]⟩
abbrev S32768x16 : Shape := ⟨2, ![32768, 16]⟩
abbrev S2x16384x16 : Shape := ⟨3, ![2, 16384, 16]⟩
abbrev S_ : Shape := ⟨0, ![]⟩
abbrev S2x16387x1536 : Shape := ⟨3, ![2, 16387, 1536]⟩
abbrev S1x1536 : Shape := ⟨2, ![1, 1536]⟩
abbrev S1x1x1536 : Shape := ⟨3, ![1, 1, 1536]⟩
abbrev S2x16384x1024 : Shape := ⟨3, ![2, 16384, 1024]⟩
abbrev S2x256x64x2x8x64 : Shape := ⟨6, ![2, 256, 64, 2, 8, 64]⟩
abbrev S2x16384x256 : Shape := ⟨3, ![2, 16384, 256]⟩
abbrev S2x256x64x2x128 : Shape := ⟨5, ![2, 256, 64, 2, 128]⟩
abbrev S1x1x16 : Shape := ⟨3, ![1, 1, 16]⟩
abbrev S2x256x64x2x8 : Shape := ⟨5, ![2, 256, 64, 2, 8]⟩
abbrev S2x8 : Shape := ⟨2, ![2, 8]⟩
abbrev S1x1x1x2x8 : Shape := ⟨5, ![1, 1, 1, 2, 8]⟩
abbrev S2x256x64x2x8x1 : Shape := ⟨6, ![2, 256, 64, 2, 8, 1]⟩
abbrev S64x64 : Shape := ⟨2, ![64, 64]⟩
abbrev S2x256x64x1x2x8 : Shape := ⟨6, ![2, 256, 64, 1, 2, 8]⟩
abbrev S2x256x1x64x2x8 : Shape := ⟨6, ![2, 256, 1, 64, 2, 8]⟩
abbrev S2x256x64x64x2x8 : Shape := ⟨6, ![2, 256, 64, 64, 2, 8]⟩
abbrev S64x64x1x1 : Shape := ⟨4, ![64, 64, 1, 1]⟩
abbrev S2x256x2x64x64 : Shape := ⟨5, ![2, 256, 2, 64, 64]⟩
abbrev S2x256x64x64x2 : Shape := ⟨5, ![2, 256, 64, 64, 2]⟩
abbrev S2x256x64x64x2x1 : Shape := ⟨6, ![2, 256, 64, 64, 2, 1]⟩
abbrev S2x256x2x8x64x64 : Shape := ⟨6, ![2, 256, 2, 8, 64, 64]⟩
abbrev S2x256x1x2x8 : Shape := ⟨5, ![2, 256, 1, 2, 8]⟩
abbrev S2x256x2x8x64x128 : Shape := ⟨6, ![2, 256, 2, 8, 64, 128]⟩
abbrev S2x256x2x8 : Shape := ⟨4, ![2, 256, 2, 8]⟩
abbrev S2x8x1 : Shape := ⟨3, ![2, 8, 1]⟩
abbrev S1x1x1x2x8x1 : Shape := ⟨6, ![1, 1, 1, 2, 8, 1]⟩
abbrev S2x2x8x64x128 : Shape := ⟨5, ![2, 2, 8, 64, 128]⟩
abbrev S256x2x2x8x64x128 : Shape := ⟨6, ![256, 2, 2, 8, 64, 128]⟩
abbrev S256x2x2x8 : Shape := ⟨4, ![256, 2, 2, 8]⟩
abbrev S256x2x64x2x128 : Shape := ⟨5, ![256, 2, 64, 2, 128]⟩
abbrev S256x2x64x2x8 : Shape := ⟨5, ![256, 2, 64, 2, 8]⟩
abbrev S256x2x64x2x8x64 : Shape := ⟨6, ![256, 2, 64, 2, 8, 64]⟩
abbrev S1x2x2x8x64x128 : Shape := ⟨6, ![1, 2, 2, 8, 64, 128]⟩
abbrev S1x2x2x8 : Shape := ⟨4, ![1, 2, 2, 8]⟩
abbrev S2x2x8 : Shape := ⟨3, ![2, 2, 8]⟩
abbrev S1x2x64x2x128 : Shape := ⟨5, ![1, 2, 64, 2, 128]⟩
abbrev S2x64x2x128 : Shape := ⟨4, ![2, 64, 2, 128]⟩
abbrev S1x2x64x2x8 : Shape := ⟨5, ![1, 2, 64, 2, 8]⟩
abbrev S2x64x2x8 : Shape := ⟨4, ![2, 64, 2, 8]⟩
abbrev S1x2x64x2x8x64 : Shape := ⟨6, ![1, 2, 64, 2, 8, 64]⟩
abbrev S2x64x2x8x64 : Shape := ⟨5, ![2, 64, 2, 8, 64]⟩
abbrev S2x2x8x64x64 : Shape := ⟨5, ![2, 2, 8, 64, 64]⟩
abbrev S2x64x2x8x1 : Shape := ⟨5, ![2, 64, 2, 8, 1]⟩
abbrev S2x2x8x1x1 : Shape := ⟨5, ![2, 2, 8, 1, 1]⟩
abbrev S32768x1024 : Shape := ⟨2, ![32768, 1024]⟩
abbrev S2x16384x2x512 : Shape := ⟨4, ![2, 16384, 2, 512]⟩
abbrev S2x16384x2 : Shape := ⟨3, ![2, 16384, 2]⟩
abbrev S2x16384x2x1 : Shape := ⟨4, ![2, 16384, 2, 1]⟩
abbrev S1x1x1024 : Shape := ⟨3, ![1, 1, 1024]⟩

abbrev nBuf : Space → Nat
  | .hbm => 244
  | .vmem => 0
  | .smem => 0
  | _ => 0

abbrev hbmTy0_0 (i : Nat) : BufTy := match i % 128 with
  | 0 => ⟨S32768x4608, .f32⟩
  | 1 => ⟨S32768x128, .f32⟩
  | 2 => ⟨S4x1536, .f32⟩
  | 3 => ⟨S1536, .f32⟩
  | 4 => ⟨S16, .f32⟩
  | 5 => ⟨S16, .f32⟩
  | 6 => ⟨S16, .f32⟩
  | 7 => ⟨S1024, .f32⟩
  | 8 => ⟨S32768x1536, .f32⟩
  | 9 => ⟨S2x16384x1536, .f32⟩
  | 10 => ⟨S32768x16, .f32⟩
  | 11 => ⟨S2x16384x16, .f32⟩
  | 12 => ⟨S_, .i32⟩
  | 13 => ⟨S_, .f32⟩
  | 14 => ⟨S2x16387x1536, .f32⟩
  | 15 => ⟨S2x16384x1536, .f32⟩
  | 16 => ⟨S1x1536, .f32⟩
  | 17 => ⟨S1536, .f32⟩
  | 18 => ⟨S1x1x1536, .f32⟩
  | 19 => ⟨S2x16384x1536, .f32⟩
  | 20 => ⟨S2x16384x1536, .f32⟩
  | 21 => ⟨S_, .f32⟩
  | 22 => ⟨S2x16384x1536, .f32⟩
  | 23 => ⟨S2x16384x1536, .f32⟩
  | 24 => ⟨S2x16384x1536, .f32⟩
  | 25 => ⟨S1x1536, .f32⟩
  | 26 => ⟨S1536, .f32⟩
  | 27 => ⟨S1x1x1536, .f32⟩
  | 28 => ⟨S2x16384x1536, .f32⟩
  | 29 => ⟨S2x16384x1536, .f32⟩
  | 30 => ⟨S2x16384x1536, .f32⟩
  | 31 => ⟨S2x16384x1536, .f32⟩
  | 32 => ⟨S1x1536, .f32⟩
  | 33 => ⟨S1536, .f32⟩
  | 34 => ⟨S1x1x1536, .f32⟩
  | 35 => ⟨S2x16384x1536, .f32⟩
  | 36 => ⟨S2x16384x1536, .f32⟩
  | 37 => ⟨S2x16384x1536, .f32⟩
  | 38 => ⟨S2x16384x1536, .f32⟩
  | 39 => ⟨S1x1536, .f32⟩
  | 40 => ⟨S1536, .f32⟩
  | 41 => ⟨S1x1x1536, .f32⟩
  | 42 => ⟨S2x16384x1536, .f32⟩
  | 43 => ⟨S2x16384x1536, .f32⟩
  | 44 => ⟨S2x16384x1536, .f32⟩
  | 45 => ⟨S1x1x1536, .f32⟩
  | 46 => ⟨S2x16384x1536, .f32⟩
  | 47 => ⟨S2x16384x1536, .f32⟩
  | 48 => ⟨S2x16384x1536, .f32⟩
  | 49 => ⟨S2x16384x1536, .f32⟩
  | 50 => ⟨S_, .f32⟩
  | 51 => ⟨S2x16384x1536, .f32⟩
  | 52 => ⟨S2x16384x1536, .f32⟩
  | 53 => ⟨S_, .f32⟩
  | 54 => ⟨S2x16384x1536, .f32⟩
  | 55 => ⟨S2x16384x1536, .f32⟩
  | 56 => ⟨S2x16384x1536, .f32⟩
  | 57 => ⟨S2x16384x1024, .f32⟩
  | 58 => ⟨S2x256x64x2x8x64, .f32⟩
  | 59 => ⟨S2x16384x256, .f32⟩
  | 60 => ⟨S2x256x64x2x128, .f32⟩
  | 61 => ⟨S2x16384x256, .f32⟩
  | 62 => ⟨S2x256x64x2x128, .f32⟩
  | 63 => ⟨S1x1x16, .f32⟩
  | 64 => ⟨S2x16384x16, .f32⟩
  | 65 => ⟨S2x16384x16, .f32⟩
  | 66 => ⟨S_, .f32⟩
  | 67 => ⟨S2x16384x16, .f32⟩
  | 68 => ⟨S2x16384x16, .f32⟩
  | 69 => ⟨S2x16384x16, .f32⟩
  | 70 => ⟨S2x16384x16, .f32⟩
  | 71 => ⟨S2x16384x16, .i1⟩
  | 72 => ⟨S2x16384x16, .f32⟩
  | 73 => ⟨S2x16384x16, .f32⟩
  | 74 => ⟨S2x16384x16, .f32⟩
  | 75 => ⟨S2x16384x16, .f32⟩
  | 76 => ⟨S2x16384x16, .f32⟩
  | 77 => ⟨S2x16384x16, .f32⟩
  | 78 => ⟨S2x16384x16, .f32⟩
  | 79 => ⟨S2x16384x16, .f32⟩
  | 80 => ⟨S2x256x64x2x8, .f32⟩
  | 81 => ⟨S16, .f32⟩
  | 82 => ⟨S2x8, .f32⟩
  | 83 => ⟨S2x8, .f32⟩
  | 84 => ⟨S1x1x1x2x8, .f32⟩
  | 85 => ⟨S2x256x64x2x8, .f32⟩
  | 86 => ⟨S2x256x64x2x8, .f32⟩
  | 87 => ⟨S_, .f32⟩
  | 88 => ⟨S_, .f32⟩
  | 89 => ⟨S2x256x64x2x8, .f32⟩
  | 90 => ⟨S2x256x64x2x8x1, .f32⟩
  | 91 => ⟨S2x256x64x2x8x64, .f32⟩
  | 92 => ⟨S2x256x64x2x8x64, .f32⟩
  | 93 => ⟨S_, .i1⟩
  | 94 => ⟨S64x64, .i1⟩
  | 95 => ⟨S64x64, .i32⟩
  | 96 => ⟨S_, .i32⟩
  | 97 => ⟨S64x64, .i32⟩
  | 98 => ⟨S64x64, .i32⟩
  | 99 => ⟨S64x64, .i32⟩
  | 100 => ⟨S64x64, .i1⟩
  | 101 => ⟨S_, .i1⟩
  | 102 => ⟨S64x64, .i1⟩
  | 103 => ⟨S64x64, .i1⟩
  | 104 => ⟨S2x256x64x1x2x8, .f32⟩
  | 105 => ⟨S2x256x1x64x2x8, .f32⟩
  | 106 => ⟨S2x256x64x64x2x8, .f32⟩
  | 107 => ⟨S2x256x64x64x2x8, .f32⟩
  | 108 => ⟨S2x256x64x64x2x8, .f32⟩
  | 109 => ⟨S64x64x1x1, .i1⟩
  | 110 => ⟨S_, .f32⟩
  | 111 => ⟨S_, .f32⟩
  | 112 => ⟨S2x256x64x64x2x8, .i1⟩
  | 113 => ⟨S2x256x64x64x2x8, .f32⟩
  | 114 => ⟨S2x256x64x64x2x8, .f32⟩
  | 115 => ⟨S2x256x64x64x2x8, .f32⟩
  | 116 => ⟨S2x256x2x64x64, .f32⟩
  | 117 => ⟨S2x256x64x64x2, .f32⟩
  | 118 => ⟨S2x256x64x64x2x1, .f32⟩
  | 119 => ⟨S2x256x64x64x2x8, .f32⟩
  | 120 => ⟨S2x256x64x64x2x8, .f32⟩
  | 121 => ⟨S2x256x2x8x64x64, .f32⟩
  | 122 => ⟨S2x256x64x2x8x64, .f32⟩
  | 123 => ⟨S2x256x1x2x8, .f32⟩
  | 124 => ⟨S2x256x64x2x8, .f32⟩
  | 125 => ⟨S2x256x64x2x8, .f32⟩
  | 126 => ⟨S2x256x64x2x8, .f32⟩
  | 127 => ⟨S2x256x64x2x8x1, .f32⟩
  | _ => ⟨S32768x4608, .f32⟩

abbrev hbmTy0_1 (i : Nat) : BufTy := match i % 128 with
  | 0 => ⟨S2x256x64x2x8x64, .f32⟩
  | 1 => ⟨S2x256x64x2x8x64, .f32⟩
  | 2 => ⟨S2x256x2x8x64x128, .f32⟩
  | 3 => ⟨S2x256x1x2x8, .f32⟩
  | 4 => ⟨S2x256x2x8, .f32⟩
  | 5 => ⟨S2x256x2x8, .f32⟩
  | 6 => ⟨S2x8, .f32⟩
  | 7 => ⟨S2x8x1, .f32⟩
  | 8 => ⟨S1x1x1x2x8x1, .f32⟩
  | 9 => ⟨S2x256x64x2x8x64, .f32⟩
  | 10 => ⟨S2x256x64x2x8x64, .f32⟩
  | 11 => ⟨S2x256x64x2x8x64, .f32⟩
  | 12 => ⟨S_, .f32⟩
  | 13 => ⟨S2x2x8x64x128, .f32⟩
  | 14 => ⟨S2x256x64x2x8, .f32⟩
  | 15 => ⟨S256x2x2x8x64x128, .f32⟩
  | 16 => ⟨S256x2x2x8, .f32⟩
  | 17 => ⟨S256x2x64x2x128, .f32⟩
  | 18 => ⟨S256x2x64x2x8, .f32⟩
  | 19 => ⟨S256x2x64x2x8x64, .f32⟩
  | 20 => ⟨S_, .f32⟩
  | 21 => ⟨S256x2x64x2x8x64, .f32⟩
  | 22 => ⟨S_, .i32⟩
  | 23 => ⟨S256x2x2x8x64x128, .f32⟩
  | 24 => ⟨S256x2x2x8, .f32⟩
  | 25 => ⟨S256x2x64x2x128, .f32⟩
  | 26 => ⟨S256x2x64x2x8, .f32⟩
  | 27 => ⟨S256x2x64x2x8x64, .f32⟩
  | 28 => ⟨S_, .i32⟩
  | 29 => ⟨S2x2x8x64x128, .f32⟩
  | 30 => ⟨S256x2x64x2x8x64, .f32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S1x2x2x8x64x128, .f32⟩
  | 39 => ⟨S2x2x8x64x128, .f32⟩
  | 40 => ⟨S_, .i32⟩
  | 41 => ⟨S_, .i32⟩
  | 42 => ⟨S_, .i32⟩
  | 43 => ⟨S1x2x2x8, .f32⟩
  | 44 => ⟨S2x2x8, .f32⟩
  | 45 => ⟨S_, .i32⟩
  | 46 => ⟨S_, .i32⟩
  | 47 => ⟨S_, .i32⟩
  | 48 => ⟨S_, .i32⟩
  | 49 => ⟨S1x2x64x2x128, .f32⟩
  | 50 => ⟨S2x64x2x128, .f32⟩
  | 51 => ⟨S_, .i32⟩
  | 52 => ⟨S_, .i32⟩
  | 53 => ⟨S_, .i32⟩
  | 54 => ⟨S_, .i32⟩
  | 55 => ⟨S1x2x64x2x8, .f32⟩
  | 56 => ⟨S2x64x2x8, .f32⟩
  | 57 => ⟨S_, .i32⟩
  | 58 => ⟨S_, .i32⟩
  | 59 => ⟨S_, .i32⟩
  | 60 => ⟨S_, .i32⟩
  | 61 => ⟨S_, .i32⟩
  | 62 => ⟨S1x2x64x2x8x64, .f32⟩
  | 63 => ⟨S2x64x2x8x64, .f32⟩
  | 64 => ⟨S2x2x8x64x64, .f32⟩
  | 65 => ⟨S2x64x2x8x64, .f32⟩
  | 66 => ⟨S2x64x2x8x1, .f32⟩
  | 67 => ⟨S2x64x2x8x64, .f32⟩
  | 68 => ⟨S2x64x2x8x64, .f32⟩
  | 69 => ⟨S2x2x8x1x1, .f32⟩
  | 70 => ⟨S2x2x8x64x128, .f32⟩
  | 71 => ⟨S2x2x8x64x128, .f32⟩
  | 72 => ⟨S2x2x8x64x128, .f32⟩
  | 73 => ⟨S2x64x2x8x64, .f32⟩
  | 74 => ⟨S1x2x64x2x8x64, .f32⟩
  | 75 => ⟨S_, .i32⟩
  | 76 => ⟨S_, .i32⟩
  | 77 => ⟨S_, .i32⟩
  | 78 => ⟨S_, .i32⟩
  | 79 => ⟨S_, .i32⟩
  | 80 => ⟨S256x2x64x2x8x64, .f32⟩
  | 81 => ⟨S_, .i32⟩
  | 82 => ⟨S_, .i32⟩
  | 83 => ⟨S2x256x64x2x8x64, .f32⟩
  | 84 => ⟨S2x16384x1024, .f32⟩
  | 85 => ⟨S32768x1024, .f32⟩
  | 86 => ⟨S2x16384x1024, .f32⟩
  | 87 => ⟨S2x16384x1024, .f32⟩
  | 88 => ⟨S2x16384x1024, .f32⟩
  | 89 => ⟨S_, .f32⟩
  | 90 => ⟨S2x16384x1024, .f32⟩
  | 91 => ⟨S2x16384x1024, .f32⟩
  | 92 => ⟨S_, .f32⟩
  | 93 => ⟨S2x16384x1024, .f32⟩
  | 94 => ⟨S2x16384x1024, .f32⟩
  | 95 => ⟨S2x16384x1024, .f32⟩
  | 96 => ⟨S2x16384x1024, .f32⟩
  | 97 => ⟨S2x16384x2x512, .f32⟩
  | 98 => ⟨S2x16384x2x512, .f32⟩
  | 99 => ⟨S_, .f32⟩
  | 100 => ⟨S2x16384x2, .f32⟩
  | 101 => ⟨S2x16384x2x1, .f32⟩
  | 102 => ⟨S_, .f32⟩
  | 103 => ⟨S2x16384x2x1, .f32⟩
  | 104 => ⟨S2x16384x2x1, .f32⟩
  | 105 => ⟨S_, .f32⟩
  | 106 => ⟨S2x16384x2x1, .f32⟩
  | 107 => ⟨S2x16384x2x1, .f32⟩
  | 108 => ⟨S2x16384x2x1, .f32⟩
  | 109 => ⟨S2x16384x2x512, .f32⟩
  | 110 => ⟨S2x16384x2x512, .f32⟩
  | 111 => ⟨S2x16384x1024, .f32⟩
  | 112 => ⟨S1x1x1024, .f32⟩
  | 113 => ⟨S2x16384x1024, .f32⟩
  | 114 => ⟨S2x16384x1024, .f32⟩
  | 115 => ⟨S32768x1024, .f32⟩
  | _ => ⟨S32768x4608, .f32⟩

abbrev hbmTy (i : Nat) : BufTy := match i / 128 with
  | 0 => hbmTy0_0 i
  | 1 => hbmTy0_1 i
  | _ => ⟨S32768x4608, .f32⟩

abbrev bufTy : (tb : Table) → Fin (tcTables nBuf tb) → BufTy
  | .hbm, ⟨i, _⟩ => hbmTy i
  | _, _ => ⟨S32768x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call3_call0_cst : Ref sig .tc := ⟨.hbm, 87, rfl⟩
abbrev main_call3_call0_v0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_0 : Ref sig .tc := ⟨.hbm, 93, rfl⟩
abbrev main_v59 : Ref sig .tc := ⟨.hbm, 94, rfl⟩
abbrev main_call4_v0 : Ref sig .tc := ⟨.hbm, 95, rfl⟩
abbrev main_call4_c : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_c_0 : Ref sig .tc := ⟨.hbm, 101, rfl⟩
abbrev main_call4_v5 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_1 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_2 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_3 : Ref sig .tc := ⟨.hbm, 148, rfl⟩
abbrev main_v100 : Ref sig .tc := ⟨.hbm, 149, rfl⟩
abbrev main_c_4 : Ref sig .tc := ⟨.hbm, 150, rfl⟩
abbrev main_v101_0 : Ref sig .tc := ⟨.hbm, 151, rfl⟩
abbrev main_v101_1 : Ref sig .tc := ⟨.hbm, 152, rfl⟩
abbrev main_v101_2 : Ref sig .tc := ⟨.hbm, 153, rfl⟩
abbrev main_v101_3 : Ref sig .tc := ⟨.hbm, 154, rfl⟩
abbrev main_v101_4 : Ref sig .tc := ⟨.hbm, 155, rfl⟩
abbrev main_v101_5 : Ref sig .tc := ⟨.hbm, 156, rfl⟩
abbrev main_v101_6 : Ref sig .tc := ⟨.hbm, 157, rfl⟩
abbrev main_v101_7 : Ref sig .tc := ⟨.hbm, 158, rfl⟩
abbrev main_while0c_c_15 : Ref sig .tc := ⟨.hbm, 159, rfl⟩
abbrev main_while0c_v124 : Ref sig .tc := ⟨.hbm, 160, rfl⟩
abbrev main_while0b_call6_c : Ref sig .tc := ⟨.hbm, 161, rfl⟩
abbrev main_while0b_call6_c_0 : Ref sig .tc := ⟨.hbm, 162, rfl⟩
abbrev main_while0b_call6_c_1 : Ref sig .tc := ⟨.hbm, 163, rfl⟩
abbrev main_while0b_call6_c_2 : Ref sig .tc := ⟨.hbm, 164, rfl⟩
abbrev main_while0b_call6_c_3 : Ref sig .tc := ⟨.hbm, 165, rfl⟩
abbrev main_while0b_call6_v0 : Ref sig .tc := ⟨.hbm, 166, rfl⟩
abbrev main_while0b_v124 : Ref sig .tc := ⟨.hbm, 167, rfl⟩
abbrev main_while0b_call7_c : Ref sig .tc := ⟨.hbm, 168, rfl⟩
abbrev main_while0b_call7_c_0 : Ref sig .tc := ⟨.hbm, 169, rfl⟩
abbrev main_while0b_call7_c_1 : Ref sig .tc := ⟨.hbm, 170, rfl⟩
abbrev main_while0b_call7_v0 : Ref sig .tc := ⟨.hbm, 171, rfl⟩
abbrev main_while0b_v125 : Ref sig .tc := ⟨.hbm, 172, rfl⟩
abbrev main_while0b_call8_c : Ref sig .tc := ⟨.hbm, 173, rfl⟩
abbrev main_while0b_call8_c_0 : Ref sig .tc := ⟨.hbm, 174, rfl⟩
abbrev main_while0b_call8_c_1 : Ref sig .tc := ⟨.hbm, 175, rfl⟩
abbrev main_while0b_call8_c_2 : Ref sig .tc := ⟨.hbm, 176, rfl⟩
abbrev main_while0b_call8_v0 : Ref sig .tc := ⟨.hbm, 177, rfl⟩
abbrev main_while0b_v126 : Ref sig .tc := ⟨.hbm, 178, rfl⟩
abbrev main_while0b_call9_c : Ref sig .tc := ⟨.hbm, 179, rfl⟩
abbrev main_while0b_call9_c_0 : Ref sig .tc := ⟨.hbm, 180, rfl⟩
abbrev main_while0b_call9_c_1 : Ref sig .tc := ⟨.hbm, 181, rfl⟩
abbrev main_while0b_call9_c_2 : Ref sig .tc := ⟨.hbm, 182, rfl⟩
abbrev main_while0b_call9_v0 : Ref sig .tc := ⟨.hbm, 183, rfl⟩
abbrev main_while0b_v127 : Ref sig .tc := ⟨.hbm, 184, rfl⟩
abbrev main_while0b_call10_c : Ref sig .tc := ⟨.hbm, 185, rfl⟩
abbrev main_while0b_call10_c_0 : Ref sig .tc := ⟨.hbm, 186, rfl⟩
abbrev main_while0b_call10_c_1 : Ref sig .tc := ⟨.hbm, 187, rfl⟩
abbrev main_while0b_call10_c_2 : Ref sig .tc := ⟨.hbm, 188, rfl⟩
abbrev main_while0b_call10_c_3 : Ref sig .tc := ⟨.hbm, 189, rfl⟩
abbrev main_while0b_call10_v0 : Ref sig .tc := ⟨.hbm, 190, rfl⟩
abbrev main_while0b_v128 : Ref sig .tc := ⟨.hbm, 191, rfl⟩
abbrev main_while0b_v129 : Ref sig .tc := ⟨.hbm, 192, rfl⟩
abbrev main_while0b_v130 : Ref sig .tc := ⟨.hbm, 193, rfl⟩
abbrev main_while0b_v131 : Ref sig .tc := ⟨.hbm, 194, rfl⟩
abbrev main_while0b_v132 : Ref sig .tc := ⟨.hbm, 195, rfl⟩
abbrev main_while0b_v133 : Ref sig .tc := ⟨.hbm, 196, rfl⟩
abbrev main_while0b_v134 : Ref sig .tc := ⟨.hbm, 197, rfl⟩
abbrev main_while0b_v135 : Ref sig .tc := ⟨.hbm, 198, rfl⟩
abbrev main_while0b_v136 : Ref sig .tc := ⟨.hbm, 199, rfl⟩
abbrev main_while0b_v137 : Ref sig .tc := ⟨.hbm, 200, rfl⟩
abbrev main_while0b_v138 : Ref sig .tc := ⟨.hbm, 201, rfl⟩
abbrev main_while0b_call11_v0 : Ref sig .tc := ⟨.hbm, 202, rfl⟩
abbrev main_while0b_call11_c : Ref sig .tc := ⟨.hbm, 203, rfl⟩
abbrev main_while0b_call11_c_0 : Ref sig .tc := ⟨.hbm, 204, rfl⟩
abbrev main_while0b_call11_c_1 : Ref sig .tc := ⟨.hbm, 205, rfl⟩
abbrev main_while0b_call11_c_2 : Ref sig .tc := ⟨.hbm, 206, rfl⟩
abbrev main_while0b_call11_c_3 : Ref sig .tc := ⟨.hbm, 207, rfl⟩
abbrev main_while0b_v139 : Ref sig .tc := ⟨.hbm, 208, rfl⟩
abbrev main_while0b_c_15 : Ref sig .tc := ⟨.hbm, 209, rfl⟩
abbrev main_while0b_v140 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_call12_v0 : Ref sig .tc := ⟨.hbm, 215, rfl⟩
abbrev main_call12_v1 : Ref sig .tc := ⟨.hbm, 216, rfl⟩
abbrev main_call12_cst : Ref sig .tc := ⟨.hbm, 217, rfl⟩
abbrev main_call12_v2 : Ref sig .tc := ⟨.hbm, 218, rfl⟩
abbrev main_call12_v3 : Ref sig .tc := ⟨.hbm, 219, rfl⟩
abbrev main_call12_cst_0 : Ref sig .tc := ⟨.hbm, 220, rfl⟩
abbrev main_call12_v4 : Ref sig .tc := ⟨.hbm, 221, rfl⟩
abbrev main_call12_v5 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_cst_5 : Ref sig .tc := ⟨.hbm, 227, rfl⟩
abbrev main_v110 : Ref sig .tc := ⟨.hbm, 228, rfl⟩
abbrev main_v111 : Ref sig .tc := ⟨.hbm, 229, rfl⟩
abbrev main_cst_6 : Ref sig .tc := ⟨.hbm, 230, rfl⟩
abbrev main_v112 : Ref sig .tc := ⟨.hbm, 231, rfl⟩
abbrev main_v113 : Ref sig .tc := ⟨.hbm, 232, rfl⟩
abbrev main_cst_7 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S32768x2048 : Shape := ⟨2, ![32768, 2048]⟩
abbrev S2048x4624 : Shape := ⟨2, ![2048, 4624]⟩
abbrev S2048x4608 : Shape := ⟨2, ![2048, 4608]⟩
abbrev S32768x4608 : Shape := ⟨2, ![32768, 4608]⟩
abbrev S512x2048 : Shape := ⟨2, ![512, 2048]⟩
abbrev S2048x1536 : Shape := ⟨2, ![2048, 1536]⟩
abbrev S512x1536 : Shape := ⟨2, ![512, 1536]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x4624, .f32⟩
  | .hbm, ⟨2, _⟩ => ⟨S2048x4608, .f32⟩
  | .hbm, ⟨3, _⟩ => ⟨S2048x4608, .bf16⟩
  | .hbm, ⟨4, _⟩ => ⟨S32768x4608, .f32⟩
  | .local _ .vmem, ⟨0, _⟩ => ⟨S512x2048, .f32⟩
  | .local _ .vmem, ⟨1, _⟩ => ⟨S512x2048, .f32⟩
  | .local _ .vmem, ⟨2, _⟩ => ⟨S2048x1536, .bf16⟩
  | .local _ .vmem, ⟨3, _⟩ => ⟨S2048x1536, .bf16⟩
  | .local _ .vmem, ⟨4, _⟩ => ⟨S512x1536, .f32⟩
  | .local _ .vmem, ⟨5, _⟩ => ⟨S512x1536, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x2048 : Shape := ⟨2, ![32768, 2048]⟩
abbrev S2048x4624 : Shape := ⟨2, ![2048, 4624]⟩
abbrev S2048x4608 : Shape := ⟨2, ![2048, 4608]⟩
abbrev S32768x4608 : Shape := ⟨2, ![32768, 4608]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x4624, .f32⟩
  | .hbm, ⟨2, _⟩ => ⟨S2048x4608, .f32⟩
  | .hbm, ⟨3, _⟩ => ⟨S32768x4608, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S2048x2048 : Shape := ⟨2, ![2048, 2048]⟩
abbrev S2048 : Shape := ⟨1, ![2048]⟩
abbrev S1024x2048 : Shape := ⟨2, ![1024, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x1024 : Shape := ⟨2, ![32768, 1024]⟩
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S8x2x128x128 : Shape := ⟨4, ![8, 2, 128, 128]⟩
abbrev S16x128x128 : Shape := ⟨3, ![16, 128, 128]⟩
abbrev S16x128x32768 : Shape := ⟨3, ![16, 128, 32768]⟩
abbrev S256x2048 : Shape := ⟨2, ![256, 2048]⟩
abbrev S16x128x256 : Shape := ⟨3, ![16, 128, 256]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 7
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S8x2x128x128, .f32⟩
  | .hbm, ⟨3, _⟩ => ⟨S2048x2048, .bf16⟩
  | .hbm, ⟨4, _⟩ => ⟨S16x128x128, .f32⟩
  | .hbm, ⟨5, _⟩ => ⟨S16x128x128, .bf16⟩
  | .hbm, ⟨6, _⟩ => ⟨S16x128x32768, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S16x128x128, .bf16⟩
  | .local _ .vmem, ⟨4, _⟩ => ⟨S16x128x256, .f32⟩
  | .local _ .vmem, ⟨5, _⟩ => ⟨S16x128x256, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32768x2048 : Shape := ⟨2, ![32768, 2048]⟩
abbrev S2048x2048 : Shape := ⟨2, ![2048, 2048]⟩
abbrev S8x2x128x128 : Shape := ⟨4, ![8, 2, 128, 128]⟩
abbrev S32768x8x2x128 : Shape := ⟨4, ![32768, 8, 2, 128]⟩
abbrev S8x2x128x32768 : Shape := ⟨4, ![8, 2, 128, 32768]⟩
abbrev S16x128x32768 : Shape := ⟨3, ![16, 128, 32768]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S8x2x128x128, .f32⟩
  | .hbm, ⟨3, _⟩ => ⟨S32768x2048, .f32⟩
  | .hbm, ⟨4, _⟩ => ⟨S32768x8x2x128, .f32⟩
  | .hbm, ⟨5, _⟩ => ⟨S8x2x128x32768, .f32⟩
  | .hbm, ⟨6, _⟩ => ⟨S32768x8x2x128, .f32⟩
  | .hbm, ⟨7, _⟩ => ⟨S8x2x128x32768, .f32⟩
  | .hbm, ⟨8, _⟩ => ⟨S16x128x32768, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S32768x2048 : Shape := ⟨2, ![32768, 2048]⟩
abbrev S32768x256 : Shape := ⟨2, ![32768, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S2048x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S32768x2048 : Shape := ⟨2, ![32768, 2048]⟩
abbrev S32768x256 : Shape := ⟨2, ![32768, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x2048, .f32⟩
  | .hbm, ⟨45, _⟩ => ⟨S32768x2048, .f32⟩
  | .hbm, ⟨46, _⟩ => ⟨S1x2048, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel6.lean ====
abbrev S32768x2048 : Shape := ⟨2, ![32768, 2048]⟩
abbrev S2048x4624 : Shape := ⟨2, ![2048, 4624]⟩
abbrev S2048x16 : Shape := ⟨2, ![2048, 16]⟩
abbrev S_ : Shape := ⟨0, ![]⟩
abbrev S2048x128 : Shape := ⟨2, ![2048, 128]⟩
abbrev S32768x128 : Shape := ⟨2, ![32768, 128]⟩
abbrev S512x2048 : Shape := ⟨2, ![512, 2048]⟩
abbrev S512x128 : Shape := ⟨2, ![512, 128]⟩

abbrev nBuf : Space → Nat
  | .hbm => 8
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048x4624, .f32⟩
  | .hbm, ⟨2, _⟩ => ⟨S2048x16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x2048 : Shape := ⟨2, ![32768, 2048]⟩
abbrev S2048x4624 : Shape := ⟨2, ![2048, 4624]⟩
abbrev S2048x16 : Shape := ⟨2, ![2048, 16]⟩
abbrev S_ : Shape := ⟨0, ![]⟩
abbrev S2048x128 : Shape := ⟨2, ![2048, 128]⟩
abbrev S32768x128 : Shape := ⟨2, ![32768, 128]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x4624, .f32⟩
  | .hbm, ⟨2, _⟩ => ⟨S2048x16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel7.lean ====
abbrev S32768x2048 : Shape := ⟨2, ![32768, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x2048, .f32⟩
  | .hbm, ⟨25, _⟩ => ⟨S32768x2048, .f32⟩
  | .hbm, ⟨26, _⟩ => ⟨S1x2048, .f32⟩
  | .hbm, ⟨27, _⟩ => ⟨S32768x2048, .f32⟩
  | .hbm, ⟨28, _⟩ => ⟨S32768x2048, .f32⟩
  | .hbm, ⟨29, _⟩ => ⟨S1x2048, .f32⟩
  | .hbm, ⟨30, _⟩ => ⟨S32768x2048, .f32⟩
  | .hbm, ⟨31, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Vocab.lean ====
/-
  The body of the recurrence kernel in one vocabulary: what one grid point computes from its blocks, chunk by chunk
  (four chunks of 64 rows), group by group (two groups of 512 columns), pair of heads by pair of heads (four per
  group). The printed body writes the same terms out for every chunk, group and pair, with other literals; each of
  its stores is an instance of the terms named here.
-/
module

public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.KernelIdeal.Ssd

open Cert.KernelIdeal Cert.KernelIdeal.Gen

variable {F : FTy → Type} [FloatOps F]

/-- The blocks one grid point reads: its fifteen inputs, the convolution's rows `xb` (eight rows of the point before, then
    the point's own 256) and the state `pv` the point before left. -/
structure Blk (F : FTy → Type) [FloatOps F] where
  x0 : Vec F S256x1024 .f32
  x2 : Vec F S256x128 .f32
  x3 : Vec F S8x512 .f32
  x4 : Vec F S4x1536 .f32
  x5 : Vec F S1x1536 .f32
  x6 : Vec F S1x128 .f32
  x7 : Vec F S1x128 .f32
  x8 : Vec F S8x128 .f32
  x9 : Vec F S8x128 .f32
  x10 : Vec F S1x1024 .f32
  x11 : Vec F S1x1024 .f32
  x12 : Vec F S128x1024 .f32
  x13 : Vec F S64x64 .f32
  x14 : Vec F S128x128 .f32
  xb : Vec F S264x1536 .f32
  pv : Vec F S2x128x512 .f32

/-- A chunk's rows lie inside the convolution's buffer. -/
theorem inbW (c : Fin 4) (k : Fin 9) : ∀ a, (![64 * c.val + k.val, 0] : Fin 2 → ℕ) a + S64x1536.size a ≤ S264x1536.size a := by
  revert c k; decide
/-- A tap lies inside the table of taps. -/
theorem inbR (k : Fin 4) : ∀ a, (![k.val, 0] : Fin 2 → ℕ) a + S1x1536.size a ≤ S4x1536.size a := by revert k; decide
/-- A chunk's steps lie inside the block's. -/
theorem inbT (c : Fin 4) : ∀ a, (![0, 128 * c.val] : Fin 2 → ℕ) a + S8x128.size a ≤ S8x512.size a := by revert c; decide
/-- A group's state lies inside the state. -/
theorem inbP (g : Fin 2) : ∀ a, (![g.val, 0, 0] : Fin 3 → ℕ) a + S1x128x512.size a ≤ S2x128x512.size a := by revert g; decide
/-- A store of 64 rows and two heads lies inside the block. -/
theorem inbY (c : Fin 4) (g : Fin 2) (p : Fin 4) :
    ∀ a, (![64 * c.val, 512 * g.val + 128 * p.val] : Fin 2 → ℕ) a + S64x128.size a ≤ S256x1024.size a := by revert c g p; decide
/-- A chunk's rows are a slice of the block's. -/
theorem slC (c : Fin 4) : S256x1024.Slices ![64 * c.val, 0] S64x1024 := by revert c; decide
/-- A group's input and output rows are a slice of the chunk's. -/
theorem slB (g : Fin 2) : S64x256.Slices ![0, 128 * g.val] S64x128 := by revert g; decide
/-- A group's columns are a slice of the chunk's. -/
theorem slG (g : Fin 2) : S64x1024.Slices ![0, 512 * g.val] S64x512 := by revert g; decide
/-- A group's columns are a slice of a row. -/
theorem slG1 (g : Fin 2) : S1x1024.Slices ![0, 512 * g.val] S1x512 := by revert g; decide
/-- Two heads' columns are a slice of the chunk's. -/
theorem slQ (g : Fin 2) (p : Fin 4) : S64x1024.Slices ![0, 512 * g.val + 128 * p.val] S64x128 := by revert g p; decide
/-- Two heads' row is a slice of the running sums along the lanes. -/
theorem slA (g : Fin 2) (p : Fin 4) : S8x128.Slices ![4 * g.val + p.val, 0] S1x128 := by revert g p; decide
/-- Two heads' columns are a slice of the group's. -/
theorem slP (p : Fin 4) : S64x512.Slices ![0, 128 * p.val] S64x128 := by revert p; decide

variable (I : Blk F)

/-- Rows `64c + k …` of the convolution's buffer: chunk `c`'s rows moved back by `8 - k`. -/
def win (c : Fin 4) (k : Fin 9) : Vec F S64x1536 .f32 := View.ld I.xb (Rect.unit ![64 * c.val + k.val, 0] S64x1536.size (inbW c k))
/-- Tap `k` of the convolution. -/
def tap (k : Fin 4) : Vec F S1x1536 .f32 := View.ld I.x4 (Rect.unit ![k.val, 0] S1x1536.size (inbR k))
/-- Chunk `c` after the convolution and its silu. -/
def XC (c : Fin 4) : FVec F S64x1536 .f32 :=
  k0_pay15 (k0_pay14 I.x5 (win I c 5) (tap I 0)) (win I c 6) (tap I 1) (win I c 7) (tap I 2) (win I c 8) (tap I 3)
/-- The steps of the block, every head's repeated over its columns. -/
def DTX : FVec F S256x1024 .f32 := k0_pay7 I.x2 I.x6 I.x12
/-- The log decays of the block, every head's repeated over its columns. -/
def DAX : FVec F S256x1024 .f32 := k0_pay8 I.x7 I.x2 I.x6 I.x12
/-- The chunk's values. -/
def XS (c : Fin 4) : FVec F S64x1024 .f32 := extractStridedSlice S64x1024 ![0, 0] (XC I c) slices_S64x1536_o0_0_S64x1024
/-- The chunk's input rows. -/
def BM (c : Fin 4) : FVec F S64x256 .f32 := extractStridedSlice S64x256 ![0, 1024] (XC I c) slices_S64x1536_o0_1024_S64x256
/-- The chunk's output rows. -/
def CM (c : Fin 4) : FVec F S64x256 .f32 := extractStridedSlice S64x256 ![0, 1280] (XC I c) slices_S64x1536_o0_1280_S64x256
/-- The running sums of the log decays, down the rows. -/
def ACX (c : Fin 4) : FVec F S64x1024 .f32 :=
  matmul dot_S64x64_S64x1024_S64x1024_1_0_0_1_n_n (some .fp32) (k0_pay10 I.x13) (extractStridedSlice S64x1024 ![64 * c.val, 0] (DAX I) (slC c)) (constant S64x1024 .f32 0x00000000#32)
/-- The chunk's raw steps, transposed. -/
def TW (c : Fin 4) : Vec F S8x128 .f32 := View.ld I.x3 (Rect.unit ![0, 128 * c.val] S8x128.size (inbT c))
/-- The running sums of the log decays along the lanes. -/
def AROW (c : Fin 4) : FVec F S8x128 .f32 :=
  k0_pay23 (k0_pay9 I.x9) (k0_pay11 I.x14) (k0_pay21 (TW I c) I.x8) (k0_pay22 (TW I c) I.x8) (Scalar.ofBits .f32 0x3F800000#32)
/-- The running sums at the chunk's last row. -/
def LAST (c : Fin 4) : FVec F S1x1024 .f32 := extractStridedSlice S1x1024 ![63, 0] (ACX I c) slices_S64x1024_o63_0_S1x1024
/-- The values times the steps. -/
def XDT (c : Fin 4) : FVec F S64x1024 .f32 := mulf (XS I c) (extractStridedSlice S64x1024 ![64 * c.val, 0] (DTX I) (slC c))
/-- Those times the decay to the chunk's last row. -/
def XST (c : Fin 4) : FVec F S64x1024 .bf16 :=
  truncf .bf16 (mulf (XDT I c) (exp (subf (broadcastTo S64x1024 (LAST I c) broadcasts_S1x1024_S64x1024) (ACX I c)))) bitsLt_bf16_f32
/-- The values times the steps, in the narrow format. -/
def XDTB (c : Fin 4) : FVec F S64x1024 .bf16 := truncf .bf16 (XDT I c) bitsLt_bf16_f32
/-- The values times the skip weights. -/
def SK (c : Fin 4) : FVec F S64x1024 .f32 :=
  mulf (XS I c) (broadcastTo S64x1024 (shapeCast S1x1024 I.x10 shapeCasts_S1x1024_S1x1024) broadcasts_S1x1024_S64x1024)
/-- A group's input rows. -/
def BG (c : Fin 4) (g : Fin 2) : FVec F S64x128 .bf16 := truncf .bf16 (extractStridedSlice S64x128 ![0, 128 * g.val] (BM I c) (slB g)) bitsLt_bf16_f32
/-- A group's output rows. -/
def CG (c : Fin 4) (g : Fin 2) : FVec F S64x128 .bf16 := truncf .bf16 (extractStridedSlice S64x128 ![0, 128 * g.val] (CM I c) (slB g)) bitsLt_bf16_f32
/-- A group's products of output rows with input rows, twice side by side. -/
def CB (c : Fin 4) (g : Fin 2) : FVec F S64x128 .f32 :=
  matmul dot_S64x128_S128x128_S64x128_1_1_0_0_n_n none (CG I c g) (concatenate S128x128 0 [⟨S64x128, BG I c g⟩, ⟨S64x128, BG I c g⟩] concatenates_S64x128_S64x128_S128x128_d0) (constant S64x128 .f32 0x00000000#32)
/-- The state of group `g` one chunk on: decayed, plus the chunk's own. -/
def NXT (c : Fin 4) (g : Fin 2) (p : Vec F S1x128x512 .f32) : FVec F S1x128x512 .f32 :=
  shapeCast S1x128x512 (addf
    (mulf (shapeCast S128x512 p shapeCasts_S1x128x512_S128x512)
      (broadcastTo S128x512 (extractStridedSlice S1x512 ![0, 512 * g.val] (exp (LAST I c)) (slG1 g)) broadcasts_S1x512_S128x512))
    (matmul dot_S64x128_S64x512_S128x512_0_0_1_1_n_n none (BG I c g) (extractStridedSlice S64x512 ![0, 512 * g.val] (XST I c) (slG g)) (constant S128x512 .f32 0x00000000#32)))
    shapeCasts_S128x512_S1x128x512
/-- The state of group `g` before chunk `n`. -/
def PV (g : Fin 2) : ℕ → Vec F S1x128x512 .f32
  | 0 => View.ld I.pv (Rect.unit ![g.val, 0, 0] S1x128x512.size (inbP g))
  | n + 1 => NXT I (Fin.ofNat 4 n) g (PV g n)
/-- What the state brought in gives chunk `c`. -/
def YO (c : Fin 4) (g : Fin 2) : FVec F S64x512 .f32 :=
  mulf (matmul dot_S64x128_S128x512_S64x512_1_0_0_1_n_n none (CG I c g) (truncf .bf16 (shapeCast S128x512 (PV I g c.val) shapeCasts_S1x128x512_S128x512) bitsLt_bf16_f32) (constant S64x512 .f32 0x00000000#32))
    (extractStridedSlice S64x512 ![0, 512 * g.val] (exp (ACX I c)) (slG g))
/-- The decays from row to row of two heads, side by side; above the diagonal `exp` of minus infinity. -/
def DEC (c : Fin 4) (g : Fin 2) (p : Fin 4) : FVec F S64x128 .f32 :=
  exp (select k0_pay12 (subf (extractStridedSlice S64x128 ![0, 512 * g.val + 128 * p.val] (ACX I c) (slQ g p))
    (broadcastTo S64x128 (extractStridedSlice S1x128 ![4 * g.val + p.val, 0] (AROW I c) (slA g p)) broadcasts_S1x128_S64x128))
    (broadcast S64x128 (Scalar.ofBits .f32 0xFF800000#32)))
/-- Two heads' values times steps. -/
def XQ (c : Fin 4) (g : Fin 2) (p : Fin 4) : FVec F S64x128 .bf16 := extractStridedSlice S64x128 ![0, 512 * g.val + 128 * p.val] (XDTB I c) (slQ g p)
/-- A block of zeros. -/
def ZB : FVec F S64x128 .bf16 := broadcast S64x128 (Scalar.ofBits .bf16 0x0000#16)
/-- One store of 64 rows and two heads. -/
def YP (c : Fin 4) (g : Fin 2) (p : Fin 4) : FVec F S64x128 .f32 :=
  shapeCast S64x128 (addf (addf
    (matmul dot_S64x128_S128x128_S64x128_1_0_0_1_n_n none (truncf .bf16 (mulf (CB I c g) (DEC I c g p)) bitsLt_bf16_f32)
      (concatenate S128x128 0 [⟨S64x128, select k0_pay13 (XQ I c g p) ZB⟩, ⟨S64x128, select k0_pay13 ZB (XQ I c g p)⟩] concatenates_S64x128_S64x128_S128x128_d0)
      (constant S64x128 .f32 0x00000000#32))
    (extractStridedSlice S64x128 ![0, 128 * p.val] (YO I c g) (slP p)))
    (extractStridedSlice S64x128 ![0, 512 * g.val + 128 * p.val] (SK I c) (slQ g p))) shapeCasts_S64x128_S64x128

/-- The stores of the block's rows, last first. -/
def YL : List (View.Piece (Elt F) S256x1024 .f32) := [
  ⟨Rect.unit ![192, 896] S64x128.size inb_S256x1024_S64x128_192_896, YP I 3 1 3⟩,
  ⟨Rect.unit ![192, 768] S64x128.size inb_S256x1024_S64x128_192_768, YP I 3 1 2⟩,
  ⟨Rect.unit ![192, 640] S64x128.size inb_S256x1024_S64x128_192_640, YP I 3 1 1⟩,
  ⟨Rect.unit ![192, 512] S64x128.size inb_S256x1024_S64x128_192_512, YP I 3 1 0⟩,
  ⟨Rect.unit ![192, 384] S64x128.size inb_S256x1024_S64x128_192_384, YP I 3 0 3⟩,
  ⟨Rect.unit ![192, 256] S64x128.size inb_S256x1024_S64x128_192_256, YP I 3 0 2⟩,
  ⟨Rect.unit ![192, 128] S64x128.size inb_S256x1024_S64x128_192_128, YP I 3 0 1⟩,
  ⟨Rect.unit ![192, 0] S64x128.size inb_S256x1024_S64x128_192_0, YP I 3 0 0⟩,
  ⟨Rect.unit ![128, 896] S64x128.size inb_S256x1024_S64x128_128_896, YP I 2 1 3⟩,
  ⟨Rect.unit ![128, 768] S64x128.size inb_S256x1024_S64x128_128_768, YP I 2 1 2⟩,
  ⟨Rect.unit ![128, 640] S64x128.size inb_S256x1024_S64x128_128_640, YP I 2 1 1⟩,
  ⟨Rect.unit ![128, 512] S64x128.size inb_S256x1024_S64x128_128_512, YP I 2 1 0⟩,
  ⟨Rect.unit ![128, 384] S64x128.size inb_S256x1024_S64x128_128_384, YP I 2 0 3⟩,
  ⟨Rect.unit ![128, 256] S64x128.size inb_S256x1024_S64x128_128_256, YP I 2 0 2⟩,
  ⟨Rect.unit ![128, 128] S64x128.size inb_S256x1024_S64x128_128_128, YP I 2 0 1⟩,
  ⟨Rect.unit ![128, 0] S64x128.size inb_S256x1024_S64x128_128_0, YP I 2 0 0⟩,
  ⟨Rect.unit ![64, 896] S64x128.size inb_S256x1024_S64x128_64_896, YP I 1 1 3⟩,
  ⟨Rect.unit ![64, 768] S64x128.size inb_S256x1024_S64x128_64_768, YP I 1 1 2⟩,
  ⟨Rect.unit ![64, 640] S64x128.size inb_S256x1024_S64x128_64_640, YP I 1 1 1⟩,
  ⟨Rect.unit ![64, 512] S64x128.size inb_S256x1024_S64x128_64_512, YP I 1 1 0⟩,
  ⟨Rect.unit ![64, 384] S64x128.size inb_S256x1024_S64x128_64_384, YP I 1 0 3⟩,
  ⟨Rect.unit ![64, 256] S64x128.size inb_S256x1024_S64x128_64_256, YP I 1 0 2⟩,
  ⟨Rect.unit ![64, 128] S64x128.size inb_S256x1024_S64x128_64_128, YP I 1 0 1⟩,
  ⟨Rect.unit ![64, 0] S64x128.size inb_S256x1024_S64x128_64_0, YP I 1 0 0⟩,
  ⟨Rect.unit ![0, 896] S64x128.size inb_S256x1024_S64x128_0_896, YP I 0 1 3⟩,
  ⟨Rect.unit ![0, 768] S64x128.size inb_S256x1024_S64x128_0_768, YP I 0 1 2⟩,
  ⟨Rect.unit ![0, 640] S64x128.size inb_S256x1024_S64x128_0_640, YP I 0 1 1⟩,
  ⟨Rect.unit ![0, 512] S64x128.size inb_S256x1024_S64x128_0_512, YP I 0 1 0⟩,
  ⟨Rect.unit ![0, 384] S64x128.size inb_S256x1024_S64x128_0_384, YP I 0 0 3⟩,
  ⟨Rect.unit ![0, 256] S64x128.size inb_S256x1024_S64x128_0_256, YP I 0 0 2⟩,
  ⟨Rect.unit ![0, 128] S64x128.size inb_S256x1024_S64x128_0_128, YP I 0 0 1⟩,
  ⟨Rect.unit ![0, 0] S64x128.size inb_S256x1024_S64x128_0_0, YP I 0 0 0⟩]

/-- The block's rows, read back. -/
def Y : Vec F S256x1024 .f32 := View.ld (View.canon (YL I)) (Rect.unit ![0, 0] S256x1024.size inb_S256x1024_S256x1024_0_0)
/-- The gated rows. -/
def GY : FVec F S256x1024 .f32 := k0_pay196 I.x0 (Y I) (k0_pay195 I.x0) (Scalar.ofBits .f32 0x3F800000#32)
/-- The first group, normalised. -/
def O0 : FVec F S256x512 .f32 := k0_pay198 I.x0 (Y I) (k0_pay195 I.x0) (Scalar.ofBits .f32 0x3F800000#32) I.x11
/-- The second group, normalised. -/
def O1 : FVec F S256x512 .f32 :=
  k0_pay1 (k0_pay197 I.x11) (k0_pay199 I.x0 (Y I) (k0_pay195 I.x0) (Scalar.ofBits .f32 0x3F800000#32)) (k0_pay200 I.x0 (Y I) (k0_pay195 I.x0) (Scalar.ofBits .f32 0x3F800000#32))
/-- The result's two stores, the second group's first. -/
def OL : List (View.Piece (Elt F) S256x1024 .f32) := [
  ⟨Rect.unit ![0, 512] S256x512.size inb_S256x1024_S256x512_0_512, O1 I⟩,
  ⟨Rect.unit ![0, 0] S256x512.size inb_S256x1024_S256x512_0_0, O0 I⟩]
/-- The result's block. -/
def OUT : Vec F S256x1024 .f32 := View.canon (OL I)
/-- The convolution's buffer of a point: eight rows `h`, then the block `x`. -/
def XB (h : S264x1536.Idx → Elt F .f32) (x : Vec F S256x1536 .f32) : Vec F S264x1536 .f32 := fun y =>
  if hy : 8 ≤ (y 0).val then x (fun a => match a with
    | ⟨0, _⟩ => ⟨(y 0).val - 8, by have := (y 0).isLt; change (y 0).val < 264 at this; show (y 0).val - 8 < 256; omega⟩
    | ⟨1, _⟩ => ⟨(y 1).val, (y 1).isLt⟩) else h y

end Cert.KernelIdeal.Ssd

end
-- ==== Proof.Bridge.lean ====
/-
  Loads and stores of the recurrence kernel's two scratch buffers: the convolution's rows and the state.
-/
module

public import proofs.«01_k».proof.Proof.Vocab
public import Idealize.ShloMosaic.Lib.Pipeline.ValueKit.Acc
public import Idealize.ShloMosaic.Lib.Pipeline.ReadBack
public import Idealize.ShloMosaic.Lib.Pipeline.ValueKit.Basic

@[expose] public section

noncomputable section

open Idealize.ShloMosaic Idealize.ShloMosaic.TcCoe Idealize.SL.Sem
open Idealize.ShloMosaic.Pipeline (Dat)

namespace Cert.KernelIdeal.Ssd

open Cert.KernelIdeal Cert.KernelIdeal.Gen

variable {F : FTy → Type} [FloatOps F]

/-- The offset of a whole matrix. -/
theorem hz2 : (![0, 0] : Fin 2 → Nat) = fun _ => 0 := funext fun a => by fin_cases a <;> rfl
/-- The offset of a whole stack. -/
theorem hz3 : (![0, 0, 0] : Fin 3 → Nat) = fun _ => 0 := funext fun a => by fin_cases a <;> rfl

/-- An index of the convolution's buffer under the block's store is at row 8 or later. -/
theorem mem_rows8 (y : S264x1536.Idx) : y ∈ (Rect.unit (s := S264x1536) ![8, 0] S256x1536.size inb_S264x1536_S256x1536_8_0).set ↔ 8 ≤ (y 0).val := by
  rw [Rect.mem_set_unit]
  constructor
  · intro h; exact (h 0).1
  · intro h a
    have h0 := (y 0).isLt
    have h1 := (y 1).isLt
    match a with
    | ⟨0, _⟩ => exact ⟨h, by change (y 0).val < 264 at h0; show (y 0).val < 8 + 256; omega⟩
    | ⟨1, _⟩ => exact ⟨Nat.zero_le _, by change (y 1).val < 1536 at h1; show (y 1).val < 0 + 1536; omega⟩

/-- The buffer after the block's store over contents `h` is `XB h x`. -/
theorem XB_of_emb (h : S264x1536.Idx → Elt F .f32) (x : Vec F S256x1536 .f32) (j : S256x1536.Idx) :
    XB h x ((Rect.unit (s := S264x1536) ![8, 0] S256x1536.size inb_S264x1536_S256x1536_8_0).emb j) = x j := by
  have e0 : (((Rect.unit (s := S264x1536) ![8, 0] S256x1536.size inb_S264x1536_S256x1536_8_0).emb j) 0).val = 8 + 1 * (j 0).val := rfl
  have e1 : (((Rect.unit (s := S264x1536) ![8, 0] S256x1536.size inb_S264x1536_S256x1536_8_0).emb j) 1).val = 0 + 1 * (j 1).val := rfl
  unfold XB
  rw [dif_pos (by rw [e0]; omega)]
  refine congrArg x (funext fun a => Fin.ext ?_)
  match a with
  | ⟨0, _⟩ => show (((Rect.unit (s := S264x1536) ![8, 0] S256x1536.size inb_S264x1536_S256x1536_8_0).emb j) 0).val - 8 = (j 0).val; rw [e0]; omega
  | ⟨1, _⟩ => show (((Rect.unit (s := S264x1536) ![8, 0] S256x1536.size inb_S264x1536_S256x1536_8_0).emb j) 1).val = (j 1).val; rw [e1]; omega

/-- One store over contents `x0`, read back through a view of any shape. -/
theorem read_one {sig : RefSig} {κ : Kind} {sp : Space} {s : Shape} {e : EltTy} (M : Memref sig κ sp s e) (hM : M.IsWhole) (x0 : s.Idx → Elt F e) (r : Rect s) (w : r.shape.Idx → Elt F e) (G : s.Idx → Elt F e)
    (h1 : ∀ j, G (r.emb j) = w j) (h2 : ∀ y, y ∉ r.set → G y = x0 y) :
    M.view.read (Elt F) (M.view.writes (Elt F) (hM.unread x0) [⟨r, w⟩]) = G := by
  funext y
  by_cases hy : y ∈ r.set
  · obtain ⟨j, hj⟩ := r.exists_idx_of_mem hy
    rw [← hj]
    exact (View.read_writes_cons_emb M.view _ r w [] j).trans (h1 j).symm
  · have hy' : y ∉ Finset.univ.map r.emb := by rwa [Rect.map_emb_univ]
    rw [View.writes_cons, View.read_slice_write_of_not_mem _ _ _ _ hy', View.writes_nil, hM.read_unread]
    exact (h2 y hy).symm

/-- A load inside the last store reads any `G` that agrees with it there. -/
theorem cov_one {sig : RefSig} {κ : Kind} {sp : Space} {s : Shape} {e : EltTy} (v : View sig κ sp s e) (r : Rect s) (w : r.shape.Idx → Elt F e) (L : List (View.Piece (Elt F) s e)) (B : Rect s) (G : s.Idx → Elt F e)
    (h1 : ∀ j, G (r.emb j) = w j) (hm : ∀ j, B.idx j ∈ r.set) :
    v.readCov (⟨r, w⟩ :: L) B.toLoadRect = View.ld G B := by
  rw [View.readCov_eq_canon']
  funext j
  show View.canon (⟨r, w⟩ :: L) (B.idx j) = G (B.idx j)
  obtain ⟨k, hk⟩ := r.exists_idx_of_mem (hm j)
  rw [← hk]
  exact (View.canon_cons_emb r w L k).trans (h1 k).symm

/-- Rows before 8 keep what they held. -/
theorem XB_off (h : S264x1536.Idx → Elt F .f32) (x : Vec F S256x1536 .f32) (y : S264x1536.Idx) (hy : y ∉ (Rect.unit (s := S264x1536) ![8, 0] S256x1536.size inb_S264x1536_S256x1536_8_0).set) :
    XB h x y = h y := by
  unfold XB
  rw [dif_neg (by rwa [mem_rows8] at hy)]

/-- The buffer read back after the store. -/
theorem read_xb (M : Memref sig .tc .vmem S264x1536 .f32) (hM : M.IsWhole) (xs0 : Vec F S264x1536 .f32) (x : Vec F S256x1536 .f32) :
    M.view.read (Elt F) (M.view.writes (Elt F) (hM.unread xs0) [⟨Rect.unit (s := S264x1536) ![8, 0] S256x1536.size inb_S264x1536_S256x1536_8_0, x⟩]) = XB xs0 x :=
  by
  refine read_one M hM xs0 (Rect.unit (s := S264x1536) ![8, 0] S256x1536.size inb_S264x1536_S256x1536_8_0) x (XB xs0 x) ?_ ?_
  · exact XB_of_emb xs0 x
  · exact XB_off xs0 x

/-- A load of rows 8 and later, where the block's store is. -/
theorem cov_xb (v : View sig .tc .vmem S264x1536 .f32) (h : S264x1536.Idx → Elt F .f32) (x : Vec F S256x1536 .f32) (L : List (View.Piece (Elt F) S264x1536 .f32))
    (off size : Fin 2 → ℕ) (inb) (h8 : 8 ≤ off 0) :
    v.readCov (⟨Rect.unit (s := S264x1536) ![8, 0] S256x1536.size inb_S264x1536_S256x1536_8_0, x⟩ :: L) (Rect.unit (s := S264x1536) off size inb).toLoadRect
      = View.ld (XB h x) (Rect.unit (s := S264x1536) off size inb) := by
  refine cov_one v (Rect.unit (s := S264x1536) ![8, 0] S256x1536.size inb_S264x1536_S256x1536_8_0) x L (Rect.unit (s := S264x1536) off size inb) (XB h x) ?_ ?_
  · exact XB_of_emb h x
  · intro j
    refine (mem_rows8 _).mpr ?_
    show 8 ≤ off 0 + 1 * (j 0).val
    omega

/-- A load of the state's first half does not see a store to the second. -/
theorem skip0 (v : View sig .tc .vmem S2x128x512 .f32) (w : Vec F S1x128x512 .f32) (L : List (View.Piece (Elt F) S2x128x512 .f32)) :
    v.readCov (⟨Rect.unit (s := S2x128x512) ![1, 0, 0] S1x128x512.size inb_S2x128x512_S1x128x512_1_0_0, w⟩ :: L) (Rect.unit (s := S2x128x512) ![0, 0, 0] S1x128x512.size inb_S2x128x512_S1x128x512_0_0_0).toLoadRect
      = v.readCov L (Rect.unit (s := S2x128x512) ![0, 0, 0] S1x128x512.size inb_S2x128x512_S1x128x512_0_0_0).toLoadRect :=
  View.readCov_skip _ _ _ _ _ (by decide)
/-- A load of the state's second half does not see a store to the first. -/
theorem skip1 (v : View sig .tc .vmem S2x128x512 .f32) (w : Vec F S1x128x512 .f32) (L : List (View.Piece (Elt F) S2x128x512 .f32)) :
    v.readCov (⟨Rect.unit (s := S2x128x512) ![0, 0, 0] S1x128x512.size inb_S2x128x512_S1x128x512_0_0_0, w⟩ :: L) (Rect.unit (s := S2x128x512) ![1, 0, 0] S1x128x512.size inb_S2x128x512_S1x128x512_1_0_0).toLoadRect
      = v.readCov L (Rect.unit (s := S2x128x512) ![1, 0, 0] S1x128x512.size inb_S2x128x512_S1x128x512_1_0_0).toLoadRect :=
  View.readCov_skip _ _ _ _ _ (by decide)

end Cert.KernelIdeal.Ssd

end
-- ==== Proof.BridgeB.lean ====
/-
  The kernel's two cases read back: what one run of the body leaves in the result's block, in the convolution's buffer
  and in the state, as the terms of `Vocab`.
-/
module

public import proofs.«01_k».proof.Proof.Bridge
public import Idealize.ShloMosaic.Lib.Pipeline.ValueKit.Acc
public import Idealize.ShloMosaic.Lib.Pipeline.ValueKit.Basic

@[expose] public section

noncomputable section

open Idealize.ShloMosaic Idealize.ShloMosaic.TcCoe Idealize.SL.Sem
open Idealize.ShloMosaic.Pipeline (Dat)

namespace Cert.KernelIdeal.Ssd

open Cert.KernelIdeal Cert.KernelIdeal.Gen

variable {F : FTy → Type} [FloatOps F]

/-- The 64 rows of the convolution's buffer from row `n` on, where there are so many. -/
def rowsAt (I : Blk F) (n : ℕ) : Vec F S64x1536 .f32 :=
  if h : ∀ a, (![n, 0] : Fin 2 → ℕ) a + S64x1536.size a ≤ S264x1536.size a then View.ld I.xb (Rect.unit ![n, 0] S64x1536.size h) else fun _ => FloatOps.ofBits .f32 0x00000000#32
/-- The convolution's taps of row `n`, where there is one. -/
def tapAt (I : Blk F) (n : ℕ) : Vec F S1x1536 .f32 :=
  if h : ∀ a, (![n, 0] : Fin 2 → ℕ) a + S1x1536.size a ≤ S4x1536.size a then View.ld I.x4 (Rect.unit ![n, 0] S1x1536.size h) else fun _ => FloatOps.ofBits .f32 0x00000000#32
/-- The 128 columns of the table of steps from column `n` on, where there are so many. -/
def stepsAt (I : Blk F) (n : ℕ) : Vec F S8x128 .f32 :=
  if h : ∀ a, (![0, n] : Fin 2 → ℕ) a + S8x128.size a ≤ S8x512.size a then View.ld I.x3 (Rect.unit ![0, n] S8x128.size h) else fun _ => FloatOps.ofBits .f32 0x00000000#32
/-- Half `n` of the state brought in, where there is one. -/
def halfAt (I : Blk F) (n : ℕ) : Vec F S1x128x512 .f32 :=
  if h : ∀ a, (![n, 0, 0] : Fin 3 → ℕ) a + S1x128x512.size a ≤ S2x128x512.size a then View.ld I.pv (Rect.unit ![n, 0, 0] S1x128x512.size h) else fun _ => FloatOps.ofBits .f32 0x00000000#32

/-- A load of 64 rows of the buffer. -/
theorem ld_rows (I : Blk F) (n : ℕ) (h) : View.ld I.xb (Rect.unit (s := S264x1536) ![n, 0] ![64, 1536] h) = rowsAt I n := by
  unfold rowsAt
  split
  · rfl
  · exact absurd h ‹_›
/-- A load of a row of taps. -/
theorem ld_tap (I : Blk F) (n : ℕ) (h) : View.ld I.x4 (Rect.unit (s := S4x1536) ![n, 0] ![1, 1536] h) = tapAt I n := by
  unfold tapAt
  split
  · rfl
  · exact absurd h ‹_›
/-- A load of columns of the table of steps. -/
theorem ld_steps (I : Blk F) (n : ℕ) (h) : View.ld I.x3 (Rect.unit (s := S8x512) ![0, n] ![8, 128] h) = stepsAt I n := by
  unfold stepsAt
  split
  · rfl
  · exact absurd h ‹_›
/-- A load of a half of the state. -/
theorem ld_half (I : Blk F) (n : ℕ) (h) : View.ld I.pv (Rect.unit (s := S2x128x512) ![n, 0, 0] ![1, 128, 512] h) = halfAt I n := by
  unfold halfAt
  split
  · rfl
  · exact absurd h ‹_›
/-- A chunk's rows by their first row's number. -/
theorem win_rows (I : Blk F) (c : Fin 4) (k : Fin 9) : win I c k = rowsAt I (64 * c.val + k.val) := by
  unfold rowsAt
  split
  · rfl
  · exact absurd (inbW c k) ‹_›
/-- A tap by its number. -/
theorem tap_row (I : Blk F) (k : Fin 4) : tap I k = tapAt I k.val := by
  unfold tapAt
  split
  · rfl
  · exact absurd (inbR k) ‹_›
/-- A chunk's steps by their first column's number. -/
theorem TW_steps (I : Blk F) (c : Fin 4) : TW I c = stepsAt I (128 * c.val) := by
  unfold stepsAt
  split
  · rfl
  · exact absurd (inbT c) ‹_›
/-- A group's entering state by its number. -/
theorem PV_half (I : Blk F) (g : Fin 2) : PV I g 0 = halfAt I g.val := by
  unfold halfAt
  split
  · rfl
  · exact absurd (inbP g) ‹_›

/-- The state before chunk 1. -/
theorem PV_1 (I : Blk F) (g : Fin 2) : PV I g 1 = NXT I 0 g (PV I g 0) := rfl
/-- The state before chunk 2. -/
theorem PV_2 (I : Blk F) (g : Fin 2) : PV I g 2 = NXT I 1 g (PV I g 1) := rfl
/-- The state before chunk 3. -/
theorem PV_3 (I : Blk F) (g : Fin 2) : PV I g 3 = NXT I 2 g (PV I g 2) := rfl
/-- The state after chunk 3. -/
theorem PV_4 (I : Blk F) (g : Fin 2) : PV I g 4 = NXT I 3 g (PV I g 3) := rfl

/-- The state's two halves as one array. -/
def two (w0 w1 : Vec F S1x128x512 .f32) : Vec F S2x128x512 .f32 := fun y =>
  if (y 0).val = 0 then w0 (fun a => match a with | ⟨0, _⟩ => ⟨0, Nat.one_pos⟩ | ⟨1, _⟩ => y 1 | ⟨2, _⟩ => y 2)
  else w1 (fun a => match a with | ⟨0, _⟩ => ⟨0, Nat.one_pos⟩ | ⟨1, _⟩ => y 1 | ⟨2, _⟩ => y 2)

/-- The first half of the two. -/
theorem two_0 (w0 w1 : Vec F S1x128x512 .f32) (j : S1x128x512.Idx) : two w0 w1 ((Rect.unit (s := S2x128x512) ![0, 0, 0] S1x128x512.size inb_S2x128x512_S1x128x512_0_0_0).emb j) = w0 j := by
  have hj : (j 0).val = 0 := by have := (j 0).isLt; change (j 0).val < 1 at this; omega
  unfold two
  rw [if_pos (show (((Rect.unit (s := S2x128x512) ![0, 0, 0] S1x128x512.size inb_S2x128x512_S1x128x512_0_0_0).emb j) 0).val = 0 from by show 0 + 1 * (j 0).val = 0; omega)]
  refine congrArg w0 (funext fun a => Fin.ext ?_)
  match a with
  | ⟨0, _⟩ => exact hj.symm
  | ⟨1, _⟩ => show 0 + 1 * (j 1).val = (j 1).val; omega
  | ⟨2, _⟩ => show 0 + 1 * (j 2).val = (j 2).val; omega
/-- The second half of the two. -/
theorem two_1 (w0 w1 : Vec F S1x128x512 .f32) (j : S1x128x512.Idx) : two w0 w1 ((Rect.unit (s := S2x128x512) ![1, 0, 0] S1x128x512.size inb_S2x128x512_S1x128x512_1_0_0).emb j) = w1 j := by
  have hj : (j 0).val = 0 := by have := (j 0).isLt; change (j 0).val < 1 at this; omega
  unfold two
  rw [if_neg (show ¬(((Rect.unit (s := S2x128x512) ![1, 0, 0] S1x128x512.size inb_S2x128x512_S1x128x512_1_0_0).emb j) 0).val = 0 from by show ¬(1 + 1 * (j 0).val = 0); omega)]
  refine congrArg w1 (funext fun a => Fin.ext ?_)
  match a with
  | ⟨0, _⟩ => exact hj.symm
  | ⟨1, _⟩ => show 0 + 1 * (j 1).val = (j 1).val; omega
  | ⟨2, _⟩ => show 0 + 1 * (j 2).val = (j 2).val; omega

/-- Stores of both halves, over any earlier ones. -/
theorem canon_two (w0 w1 : Vec F S1x128x512 .f32) (L : List (View.Piece (Elt F) S2x128x512 .f32)) :
    View.canon ((⟨Rect.unit (s := S2x128x512) ![1, 0, 0] S1x128x512.size inb_S2x128x512_S1x128x512_1_0_0, w1⟩ : View.Piece (Elt F) S2x128x512 .f32) :: ⟨Rect.unit (s := S2x128x512) ![0, 0, 0] S1x128x512.size inb_S2x128x512_S1x128x512_0_0_0, w0⟩ :: L) = two w0 w1 := by
  funext y
  by_cases h1 : y ∈ (Rect.unit (s := S2x128x512) ![1, 0, 0] S1x128x512.size inb_S2x128x512_S1x128x512_1_0_0).set
  · obtain ⟨j, hj⟩ := (Rect.unit (s := S2x128x512) ![1, 0, 0] S1x128x512.size inb_S2x128x512_S1x128x512_1_0_0).exists_idx_of_mem h1
    rw [← hj]
    exact (View.canon_cons_emb (Rect.unit (s := S2x128x512) ![1, 0, 0] S1x128x512.size inb_S2x128x512_S1x128x512_1_0_0) w1 _ j).trans (two_1 w0 w1 j).symm
  · have h0 : y ∈ (Rect.unit (s := S2x128x512) ![0, 0, 0] S1x128x512.size inb_S2x128x512_S1x128x512_0_0_0).set := by
      rw [Rect.mem_set_unit] at h1 ⊢
      have b0 := (y 0).isLt
      have b1 := (y 1).isLt
      have b2 := (y 2).isLt
      change (y 0).val < 2 at b0
      change (y 1).val < 128 at b1
      change (y 2).val < 512 at b2
      have hz : (y 0).val = 0 := by
        by_contra hne
        refine h1 fun a => ?_
        match a with
        | ⟨0, _⟩ => exact ⟨by show 1 ≤ (y 0).val; omega, by show (y 0).val < 1 + 1; omega⟩
        | ⟨1, _⟩ => exact ⟨Nat.zero_le _, by show (y 1).val < 0 + 128; omega⟩
        | ⟨2, _⟩ => exact ⟨Nat.zero_le _, by show (y 2).val < 0 + 512; omega⟩
      intro a
      match a with
      | ⟨0, _⟩ => exact ⟨Nat.zero_le _, by show (y 0).val < 0 + 1; omega⟩
      | ⟨1, _⟩ => exact ⟨Nat.zero_le _, by show (y 1).val < 0 + 128; omega⟩
      | ⟨2, _⟩ => exact ⟨Nat.zero_le _, by show (y 2).val < 0 + 512; omega⟩
    obtain ⟨j, hj⟩ := (Rect.unit (s := S2x128x512) ![0, 0, 0] S1x128x512.size inb_S2x128x512_S1x128x512_0_0_0).exists_idx_of_mem h0
    rw [← hj] at h1 ⊢
    exact (View.canon_cons_of_not_mem (Val := Elt F) (e := .f32) (⟨Rect.unit (s := S2x128x512) ![1, 0, 0] S1x128x512.size inb_S2x128x512_S1x128x512_1_0_0, w1⟩ : View.Piece (Elt F) S2x128x512 .f32) _ h1).trans ((View.canon_cons_emb (Rect.unit (s := S2x128x512) ![0, 0, 0] S1x128x512.size inb_S2x128x512_S1x128x512_0_0_0) w0 _ j).trans (two_0 w0 w1 j).symm)

/-- The same with the sizes written out. -/
theorem canon_two' (w0 w1 : Vec F S1x128x512 .f32) (L : List (View.Piece (Elt F) S2x128x512 .f32)) :
    View.canon ((⟨Rect.unit (s := S2x128x512) ![1, 0, 0] ![1, 128, 512] inb_S2x128x512_S1x128x512_1_0_0, w1⟩ : View.Piece (Elt F) S2x128x512 .f32) :: ⟨Rect.unit (s := S2x128x512) ![0, 0, 0] ![1, 128, 512] inb_S2x128x512_S1x128x512_0_0_0, w0⟩ :: L) = two w0 w1 := canon_two w0 w1 L

/-- A row of the buffer before row 8 is a row of the first eight. -/
theorem mem_rows0 (y : S264x1536.Idx) (hy : y ∉ (Rect.unit (s := S264x1536) ![8, 0] S256x1536.size inb_S264x1536_S256x1536_8_0).set) : y ∈ (Rect.unit (s := S264x1536) ![0, 0] S8x1536.size inb_S264x1536_S8x1536_0_0).set := by
  rw [mem_rows8] at hy
  rw [Rect.mem_set_unit]
  intro a
  have h1 := (y 1).isLt
  match a with
  | ⟨0, _⟩ => exact ⟨Nat.zero_le _, by show (y 0).val < 0 + 8; omega⟩
  | ⟨1, _⟩ => exact ⟨Nat.zero_le _, by change (y 1).val < 1536 at h1; show (y 1).val < 0 + 1536; omega⟩

/-- The buffer of a first point, its first eight rows a constant. -/
theorem canon_const (v : Elt F .f32) (z : Vec F S8x1536 .f32) (hz : ∀ j, z j = v) (x : Vec F S256x1536 .f32) :
    View.canon [(⟨Rect.unit (s := S264x1536) ![8, 0] S256x1536.size inb_S264x1536_S256x1536_8_0, x⟩ : View.Piece (Elt F) S264x1536 .f32), ⟨Rect.unit (s := S264x1536) ![0, 0] S8x1536.size inb_S264x1536_S8x1536_0_0, z⟩] = XB (fun _ => v) x := by
  funext y
  by_cases hy : y ∈ (Rect.unit (s := S264x1536) ![8, 0] S256x1536.size inb_S264x1536_S256x1536_8_0).set
  · obtain ⟨j, hj⟩ := (Rect.unit (s := S264x1536) ![8, 0] S256x1536.size inb_S264x1536_S256x1536_8_0).exists_idx_of_mem hy
    rw [← hj]
    exact (View.canon_cons_emb (Rect.unit (s := S264x1536) ![8, 0] S256x1536.size inb_S264x1536_S256x1536_8_0) x _ j).trans (XB_of_emb _ x j).symm
  · obtain ⟨j, hj⟩ := (Rect.unit (s := S264x1536) ![0, 0] S8x1536.size inb_S264x1536_S8x1536_0_0).exists_idx_of_mem (mem_rows0 y hy)
    have e1 : XB (fun _ => v) x y = v := XB_off _ x y hy
    have e2 := View.canon_cons_of_not_mem (Val := Elt F) (e := .f32) (⟨Rect.unit (s := S264x1536) ![8, 0] S256x1536.size inb_S264x1536_S256x1536_8_0, x⟩ : View.Piece (Elt F) S264x1536 .f32) [⟨Rect.unit (s := S264x1536) ![0, 0] S8x1536.size inb_S264x1536_S8x1536_0_0, z⟩] (y := y) hy
    rw [e1, e2, ← hj]
    exact (View.canon_cons_emb (Val := Elt F) (e := .f32) (Rect.unit (s := S264x1536) ![0, 0] S8x1536.size inb_S264x1536_S8x1536_0_0) z [] j).trans (hz j)

/-- The buffer of a first point: eight rows of zeros, then the block. -/
theorem canon_start (x : Vec F S256x1536 .f32) :
    View.canon [(⟨Rect.unit (s := S264x1536) ![8, 0] S256x1536.size inb_S264x1536_S256x1536_8_0, x⟩ : View.Piece (Elt F) S264x1536 .f32), ⟨Rect.unit (s := S264x1536) ![0, 0] S8x1536.size inb_S264x1536_S8x1536_0_0, k0_pay2⟩] = XB (fun _ => FloatOps.ofBits .f32 0x00000000#32) x :=
  canon_const _ k0_pay2 (fun j => by unfold k0_pay2; rw [shapeCast_self]; rfl) x

/-- The last eight rows of a block. -/
def last8 (x : Vec F S256x1536 .f32) : S264x1536.Idx → Elt F .f32 := fun y =>
  if h : (y 0).val < 8 then x (fun a => match a with | ⟨0, _⟩ => ⟨(y 0).val + 248, by show (y 0).val + 248 < 256; omega⟩ | ⟨1, _⟩ => ⟨(y 1).val, (y 1).isLt⟩)
  else FloatOps.ofBits .f32 0x00000000#32

/-- The eight rows a point copies to the front of the buffer. -/
theorem canon_tail (h : Vec F S264x1536 .f32) (x : Vec F S256x1536 .f32) (w : Vec F S8x1536 .f32) (L : List (View.Piece (Elt F) S264x1536 .f32))
    (hw : w = View.ld (XB h x) (Rect.unit (s := S264x1536) ![256, 0] S8x1536.size inb_S264x1536_S8x1536_256_0)) (y : S264x1536.Idx) (hy : (y 0).val < 8) :
    View.canon ((⟨Rect.unit (s := S264x1536) ![0, 0] S8x1536.size inb_S264x1536_S8x1536_0_0, w⟩ : View.Piece (Elt F) S264x1536 .f32) :: L) y = last8 x y := by
  have hm : y ∉ (Rect.unit (s := S264x1536) ![8, 0] S256x1536.size inb_S264x1536_S256x1536_8_0).set := by rw [mem_rows8]; omega
  obtain ⟨j, hj⟩ := (Rect.unit (s := S264x1536) ![0, 0] S8x1536.size inb_S264x1536_S8x1536_0_0).exists_idx_of_mem (mem_rows0 y hm)
  have hj0 : (y 0).val = (j 0).val := by rw [← hj]; show 0 + 1 * (j 0).val = _; omega
  have hj1 : (y 1).val = (j 1).val := by rw [← hj]; show 0 + 1 * (j 1).val = _; omega
  have e : View.canon ((⟨Rect.unit (s := S264x1536) ![0, 0] S8x1536.size inb_S264x1536_S8x1536_0_0, w⟩ : View.Piece (Elt F) S264x1536 .f32) :: L) y = w j := by
    rw [← hj]; exact View.canon_cons_emb (Val := Elt F) (e := .f32) (Rect.unit (s := S264x1536) ![0, 0] S8x1536.size inb_S264x1536_S8x1536_0_0) w L j
  rw [e, hw]
  unfold last8
  rw [dif_pos hy]
  show XB h x _ = _
  unfold XB
  refine (dif_pos (show 8 ≤ 256 + 1 * (j 0).val by omega)).trans ?_
  refine congrArg x (funext fun a => Fin.ext ?_)
  match a with
  | ⟨0, _⟩ => show 256 + 1 * (j 0).val - 8 = (y 0).val + 248; omega
  | ⟨1, _⟩ => show 0 + 1 * (j 1).val = (y 1).val; omega

/-- The state a point leaves. -/
def POUT (I : Blk F) : Vec F S2x128x512 .f32 := two (PV I 0 4) (PV I 1 4)

section B
variable (c : Dev nD) (i : grid0.Coords) (arg2 : Memref sig .tc .vmem S256x1024 .f32) (harg2 : arg2.IsWhole) (arg3 : Memref sig .tc .vmem S256x1536 .f32) (harg3 : arg3.IsWhole)
  (arg4 : Memref sig .tc .vmem S256x128 .f32) (harg4 : arg4.IsWhole) (arg5 : Memref sig .tc .vmem S8x512 .f32) (harg5 : arg5.IsWhole) (arg6 : Memref sig .tc .vmem S4x1536 .f32) (harg6 : arg6.IsWhole)
  (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole)
  (arg10 : Memref sig .tc .vmem S8x128 .f32) (harg10 : arg10.IsWhole) (arg11 : Memref sig .tc .vmem S8x128 .f32) (harg11 : arg11.IsWhole) (arg12 : Memref sig .tc .vmem S1x1024 .f32) (harg12 : arg12.IsWhole)
  (arg13 : Memref sig .tc .vmem S1x1024 .f32) (harg13 : arg13.IsWhole) (arg14 : Memref sig .tc .vmem S128x1024 .f32) (harg14 : arg14.IsWhole) (arg15 : Memref sig .tc .vmem S64x64 .f32) (harg15 : arg15.IsWhole)
  (arg16 : Memref sig .tc .vmem S128x128 .f32) (harg16 : arg16.IsWhole) (arg17 : Memref sig .tc .vmem S256x1024 .f32) (harg17 : arg17.IsWhole) (arg18 : Memref sig .tc .vmem S264x1536 .f32) (harg18 : arg18.IsWhole)
  (arg19 : Memref sig .tc .vmem S2x128x512 .f32) (harg19 : arg19.IsWhole) (arg20 : Memref sig .tc .vmem S256x1024 .f32) (harg20 : arg20.IsWhole)
  (x1 : Vec F S256x1536 .f32) (I : Blk F)

set_option maxRecDepth 100000 in
set_option maxHeartbeats 4000000 in
/-- A point that isn't a sequence's first leaves `OUT` of its blocks in the result's block. -/
theorem out_B (hc : ¬cond0_0 i) (xs0 : Vec F S264x1536 .f32) (hx : I.xb = XB xs0 x1) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc
      I.x0 x1 I.x2 I.x3 I.x4 I.x5 I.x6 I.x7 I.x8 I.x9 I.x10 I.x11 I.x12 I.x13 I.x14 xs0 I.pv = OUT I := by
  unfold out0_B_15
  rw [View.read_writes_junk_eq_canon]
  unfold kernelRun0_B
  dsimp only
  sl_unfold_words
  have hcov : ∀ (off size : Fin 2 → ℕ) (inb), 8 ≤ off 0 → arg18.view.readCov [(⟨Rect.unit (s := S264x1536) ![8, 0] S256x1536.size inb_S264x1536_S256x1536_8_0, x1⟩ : View.Piece (Elt F) S264x1536 .f32)] (Rect.unit (s := S264x1536) off size inb).toLoadRect
      = View.ld I.xb (Rect.unit (s := S264x1536) off size inb) := fun off size inb h8 => by rw [hx]; exact cov_xb _ xs0 x1 [] off size inb h8
  have hrd := read_xb arg18 harg18 xs0 x1
  rw [← hx] at hrd
  have h4 : ∀ v : Vec F S256x1536 .f32, k0_pay4 v = v := fun v => by unfold k0_pay4; exact shapeCast_self _ _
  have h20 : ∀ (L : List (View.Piece (Elt F) S256x1024 .f32)) (r : Rect S256x1024), arg20.view.readCov L r.toLoadRect = View.ld (View.canon L) r := fun L r => View.readCov_eq_canon' _ _ _
  simp (discharger := decide) only [↓View.readAt_eq_ld, ↓harg2.read_unread, ↓harg3.read_unread, ↓harg4.read_unread, ↓harg5.read_unread, ↓harg6.read_unread, ↓harg7.read_unread, ↓harg8.read_unread, ↓harg9.read_unread, ↓harg10.read_unread, ↓harg11.read_unread, ↓harg12.read_unread, ↓harg13.read_unread, ↓harg14.read_unread, ↓harg15.read_unread, ↓harg16.read_unread, ↓harg19.read_unread,
    ↓View.ld_unit_lit', ↓h4, hrd, ↓skip0, ↓skip1, ↓View.readCov_cons_toLoadRect, ↓h20]
  simp (discharger := decide) only [hcov]
  simp only [ld_rows, ld_tap, ld_steps, ld_half]
  simp only [k0_pay5, k0_pay6, k0_pay16, k0_pay17, k0_pay18, k0_pay19, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194]
  unfold OUT OL O0 O1 Y
  simp (discharger := decide) only [YL, YP, CB, CG, BG, DEC, XQ, ZB, SK, YO, XDTB, XST, XDT, LAST, AROW, ACX, XS, BM, CM, XC, DTX, DAX, PV_1, PV_2, PV_3, PV_4, PV_half, win_rows, tap_row, TW_steps, NXT, k0_pay5, k0_pay6, k0_pay14, k0_pay15, k0_pay20, k0_pay21, k0_pay22, k0_pay23,
    View.ld_unit_lit', Fin.isValue, Fin.val_zero, Fin.val_one, Fin.val_two, Fin.coe_ofNat_eq_mod, Nat.reduceMod, Nat.reduceMul, Nat.reduceAdd, Nat.mul_zero, Nat.mul_one, Nat.add_zero, Nat.zero_add]
  rfl

set_option maxRecDepth 100000 in
set_option maxHeartbeats 4000000 in
/-- A point that isn't a sequence's first leaves `POUT` of its blocks as the state. -/
theorem pv_B (hc : ¬cond0_0 i) (xs0 : Vec F S264x1536 .f32) (hx : I.xb = XB xs0 x1) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc
      I.x0 x1 I.x2 I.x3 I.x4 I.x5 I.x6 I.x7 I.x8 I.x9 I.x10 I.x11 I.x12 I.x13 I.x14 xs0 I.pv = POUT I := by
  unfold sout0_B_1
  rw [View.read_writes_junk_eq_canon]
  unfold kernelRun0_B
  dsimp only
  sl_unfold_words
  have hcov : ∀ (off size : Fin 2 → ℕ) (inb), 8 ≤ off 0 → arg18.view.readCov [(⟨Rect.unit (s := S264x1536) ![8, 0] S256x1536.size inb_S264x1536_S256x1536_8_0, x1⟩ : View.Piece (Elt F) S264x1536 .f32)] (Rect.unit (s := S264x1536) off size inb).toLoadRect
      = View.ld I.xb (Rect.unit (s := S264x1536) off size inb) := fun off size inb h8 => by rw [hx]; exact cov_xb _ xs0 x1 [] off size inb h8
  have hrd := read_xb arg18 harg18 xs0 x1
  rw [← hx] at hrd
  have h4 : ∀ v : Vec F S256x1536 .f32, k0_pay4 v = v := fun v => by unfold k0_pay4; exact shapeCast_self _ _
  have h20 : ∀ (L : List (View.Piece (Elt F) S256x1024 .f32)) (r : Rect S256x1024), arg20.view.readCov L r.toLoadRect = View.ld (View.canon L) r := fun L r => View.readCov_eq_canon' _ _ _
  simp (discharger := decide) only [↓canon_two', ↓canon_two, ↓View.readAt_eq_ld, ↓harg2.read_unread, ↓harg3.read_unread, ↓harg4.read_unread, ↓harg5.read_unread, ↓harg6.read_unread, ↓harg7.read_unread, ↓harg8.read_unread, ↓harg9.read_unread, ↓harg10.read_unread, ↓harg11.read_unread, ↓harg12.read_unread, ↓harg13.read_unread, ↓harg14.read_unread, ↓harg15.read_unread, ↓harg16.read_unread, ↓harg19.read_unread,
    ↓View.ld_unit_lit', ↓h4, hrd, ↓skip0, ↓skip1, ↓View.readCov_cons_toLoadRect, ↓h20]
  simp (discharger := decide) only [hcov]
  simp only [ld_rows, ld_tap, ld_steps, ld_half]
  simp only [k0_pay5, k0_pay6, k0_pay16, k0_pay17, k0_pay18, k0_pay19, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194]
  unfold POUT
  simp (discharger := decide) only [YL, YP, CB, CG, BG, DEC, XQ, ZB, SK, YO, XDTB, XST, XDT, LAST, AROW, ACX, XS, BM, CM, XC, DTX, DAX, PV_1, PV_2, PV_3, PV_4, PV_half, win_rows, tap_row, TW_steps, NXT, k0_pay5, k0_pay6, k0_pay14, k0_pay15, k0_pay20, k0_pay21, k0_pay22, k0_pay23,
    View.ld_unit_lit', Fin.isValue, Fin.val_zero, Fin.val_one, Fin.val_two, Fin.coe_ofNat_eq_mod, Nat.reduceMod, Nat.reduceMul, Nat.reduceAdd, Nat.mul_zero, Nat.mul_one, Nat.add_zero, Nat.zero_add]

set_option maxRecDepth 100000 in
set_option maxHeartbeats 4000000 in
/-- A sequence's first point leaves `OUT` of its blocks in the result's block, its buffer's first rows and its entering state being zeros. -/
theorem out_A (hc : cond0_0 i) (hx : I.xb = XB (fun _ => FloatOps.ofBits .f32 0x00000000#32) x1) (hp : I.pv = k0_pay3) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc
      I.x0 x1 I.x2 I.x3 I.x4 I.x5 I.x6 I.x7 I.x8 I.x9 I.x10 I.x11 I.x12 I.x13 I.x14 = OUT I := by
  unfold out0_A_15
  rw [View.read_writes_junk_eq_canon]
  unfold kernelRun0_A
  dsimp only
  sl_unfold_words
  have hcov : ∀ (off size : Fin 2 → ℕ) (inb), arg18.view.readCov [(⟨Rect.unit (s := S264x1536) ![8, 0] S256x1536.size inb_S264x1536_S256x1536_8_0, x1⟩ : View.Piece (Elt F) S264x1536 .f32), ⟨Rect.unit (s := S264x1536) ![0, 0] S8x1536.size inb_S264x1536_S8x1536_0_0, k0_pay2⟩] (Rect.unit (s := S264x1536) off size inb).toLoadRect
      = View.ld I.xb (Rect.unit (s := S264x1536) off size inb) := fun off size inb => by rw [hx, View.readCov_eq_canon', canon_start]
  have hpv : ∀ (off size : Fin 3 → ℕ) (inb), arg19.view.readCov [(⟨Rect.unit (s := S2x128x512) ![0, 0, 0] S2x128x512.size inb_S2x128x512_S2x128x512_0_0_0, k0_pay3⟩ : View.Piece (Elt F) S2x128x512 .f32)] (Rect.unit (s := S2x128x512) off size inb).toLoadRect
      = View.ld I.pv (Rect.unit (s := S2x128x512) off size inb) := fun off size inb => by rw [hp]; exact View.readCov_fill _ _ _ _ _ (by decide)
  have h4 : ∀ v : Vec F S256x1536 .f32, k0_pay4 v = v := fun v => by unfold k0_pay4; exact shapeCast_self _ _
  have h20 : ∀ (L : List (View.Piece (Elt F) S256x1024 .f32)) (r : Rect S256x1024), arg20.view.readCov L r.toLoadRect = View.ld (View.canon L) r := fun L r => View.readCov_eq_canon' _ _ _
  simp (discharger := decide) only [↓View.readAt_eq_ld, ↓harg2.read_unread, ↓harg3.read_unread, ↓harg4.read_unread, ↓harg5.read_unread, ↓harg6.read_unread, ↓harg7.read_unread, ↓harg8.read_unread, ↓harg9.read_unread, ↓harg10.read_unread, ↓harg11.read_unread, ↓harg12.read_unread, ↓harg13.read_unread, ↓harg14.read_unread, ↓harg15.read_unread, ↓harg16.read_unread,
    ↓View.ld_unit_lit', ↓h4, ↓skip0, ↓skip1, ↓View.readCov_cons_toLoadRect, ↓h20]
  simp (discharger := decide) only [hcov, hpv]
  simp only [ld_rows, ld_tap, ld_steps, ld_half]
  simp only [k0_pay5, k0_pay6, k0_pay16, k0_pay17, k0_pay18, k0_pay19, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194]
  unfold OUT OL O0 O1 Y
  simp (discharger := decide) only [YL, YP, CB, CG, BG, DEC, XQ, ZB, SK, YO, XDTB, XST, XDT, LAST, AROW, ACX, XS, BM, CM, XC, DTX, DAX, PV_1, PV_2, PV_3, PV_4, PV_half, win_rows, tap_row, TW_steps, NXT, k0_pay5, k0_pay6, k0_pay14, k0_pay15, k0_pay20, k0_pay21, k0_pay22, k0_pay23,
    View.ld_unit_lit', Fin.isValue, Fin.val_zero, Fin.val_one, Fin.val_two, Fin.coe_ofNat_eq_mod, Nat.reduceMod, Nat.reduceMul, Nat.reduceAdd, Nat.mul_zero, Nat.mul_one, Nat.add_zero, Nat.zero_add]
  rfl

set_option maxRecDepth 100000 in
set_option maxHeartbeats 4000000 in
/-- A sequence's first point leaves `POUT` of its blocks as the state. -/
theorem pv_A (hc : cond0_0 i) (hx : I.xb = XB (fun _ => FloatOps.ofBits .f32 0x00000000#32) x1) (hp : I.pv = k0_pay3) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc
      I.x0 x1 I.x2 I.x3 I.x4 I.x5 I.x6 I.x7 I.x8 I.x9 I.x10 I.x11 I.x12 I.x13 I.x14 = POUT I := by
  unfold sout0_A_1
  rw [View.read_writes_junk_eq_canon]
  unfold kernelRun0_A
  dsimp only
  sl_unfold_words
  have hcov : ∀ (off size : Fin 2 → ℕ) (inb), arg18.view.readCov [(⟨Rect.unit (s := S264x1536) ![8, 0] S256x1536.size inb_S264x1536_S256x1536_8_0, x1⟩ : View.Piece (Elt F) S264x1536 .f32), ⟨Rect.unit (s := S264x1536) ![0, 0] S8x1536.size inb_S264x1536_S8x1536_0_0, k0_pay2⟩] (Rect.unit (s := S264x1536) off size inb).toLoadRect
      = View.ld I.xb (Rect.unit (s := S264x1536) off size inb) := fun off size inb => by rw [hx, View.readCov_eq_canon', canon_start]
  have hpv : ∀ (off size : Fin 3 → ℕ) (inb), arg19.view.readCov [(⟨Rect.unit (s := S2x128x512) ![0, 0, 0] S2x128x512.size inb_S2x128x512_S2x128x512_0_0_0, k0_pay3⟩ : View.Piece (Elt F) S2x128x512 .f32)] (Rect.unit (s := S2x128x512) off size inb).toLoadRect
      = View.ld I.pv (Rect.unit (s := S2x128x512) off size inb) := fun off size inb => by rw [hp]; exact View.readCov_fill _ _ _ _ _ (by decide)
  have h4 : ∀ v : Vec F S256x1536 .f32, k0_pay4 v = v := fun v => by unfold k0_pay4; exact shapeCast_self _ _
  have h20 : ∀ (L : List (View.Piece (Elt F) S256x1024 .f32)) (r : Rect S256x1024), arg20.view.readCov L r.toLoadRect = View.ld (View.canon L) r := fun L r => View.readCov_eq_canon' _ _ _
  simp (discharger := decide) only [↓canon_two', ↓canon_two, ↓View.readAt_eq_ld, ↓harg2.read_unread, ↓harg3.read_unread, ↓harg4.read_unread, ↓harg5.read_unread, ↓harg6.read_unread, ↓harg7.read_unread, ↓harg8.read_unread, ↓harg9.read_unread, ↓harg10.read_unread, ↓harg11.read_unread, ↓harg12.read_unread, ↓harg13.read_unread, ↓harg14.read_unread, ↓harg15.read_unread, ↓harg16.read_unread,
    ↓View.ld_unit_lit', ↓h4, ↓skip0, ↓skip1, ↓View.readCov_cons_toLoadRect, ↓h20]
  simp (discharger := decide) only [hcov, hpv]
  simp only [ld_rows, ld_tap, ld_steps, ld_half]
  simp only [k0_pay5, k0_pay6, k0_pay16, k0_pay17, k0_pay18, k0_pay19, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194]
  unfold POUT
  simp (discharger := decide) only [YL, YP, CB, CG, BG, DEC, XQ, ZB, SK, YO, XDTB, XST, XDT, LAST, AROW, ACX, XS, BM, CM, XC, DTX, DAX, PV_1, PV_2, PV_3, PV_4, PV_half, win_rows, tap_row, TW_steps, NXT, k0_pay5, k0_pay6, k0_pay14, k0_pay15, k0_pay20, k0_pay21, k0_pay22, k0_pay23,
    View.ld_unit_lit', Fin.isValue, Fin.val_zero, Fin.val_one, Fin.val_two, Fin.coe_ofNat_eq_mod, Nat.reduceMod, Nat.reduceMul, Nat.reduceAdd, Nat.mul_zero, Nat.mul_one, Nat.add_zero, Nat.zero_add]

set_option maxRecDepth 100000 in
set_option maxHeartbeats 4000000 in
/-- The first eight rows a point leaves for the next one are the last of its block. -/
theorem tail_B (hc : ¬cond0_0 i) (xs0 : Vec F S264x1536 .f32) (y : S264x1536.Idx) (hy : (y 0).val < 8) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc
      I.x0 x1 I.x2 I.x3 I.x4 I.x5 I.x6 I.x7 I.x8 I.x9 I.x10 I.x11 I.x12 I.x13 I.x14 xs0 I.pv y = last8 x1 y := by
  unfold sout0_B_0
  rw [View.read_writes_junk_eq_canon]
  unfold kernelRun0_B
  dsimp only
  sl_unfold_words
  have hcov : ∀ (off size : Fin 2 → ℕ) (inb), 8 ≤ off 0 → arg18.view.readCov [(⟨Rect.unit (s := S264x1536) ![8, 0] S256x1536.size inb_S264x1536_S256x1536_8_0, x1⟩ : View.Piece (Elt F) S264x1536 .f32)] (Rect.unit (s := S264x1536) off size inb).toLoadRect
      = View.ld (XB xs0 x1) (Rect.unit (s := S264x1536) off size inb) := fun off size inb h8 => by exact cov_xb _ xs0 x1 [] off size inb h8
  have hrd := read_xb arg18 harg18 xs0 x1
  have h4 : ∀ v : Vec F S256x1536 .f32, k0_pay4 v = v := fun v => by unfold k0_pay4; exact shapeCast_self _ _
  have h20 : ∀ (L : List (View.Piece (Elt F) S256x1024 .f32)) (r : Rect S256x1024), arg20.view.readCov L r.toLoadRect = View.ld (View.canon L) r := fun L r => View.readCov_eq_canon' _ _ _
  simp (discharger := decide) only [↓View.readAt_eq_ld, ↓harg2.read_unread, ↓harg3.read_unread, ↓harg4.read_unread, ↓harg5.read_unread, ↓harg6.read_unread, ↓harg7.read_unread, ↓harg8.read_unread, ↓harg9.read_unread, ↓harg10.read_unread, ↓harg11.read_unread, ↓harg12.read_unread, ↓harg13.read_unread, ↓harg14.read_unread, ↓harg15.read_unread, ↓harg16.read_unread, ↓harg19.read_unread,
    ↓View.ld_unit_lit', ↓h4, hrd, ↓skip0, ↓skip1, ↓View.readCov_cons_toLoadRect, ↓h20]
  simp (discharger := decide) only [hcov]
  exact canon_tail xs0 x1 _ _ (by unfold k0_pay194; exact shapeCast_self _ _) y hy

set_option maxRecDepth 100000 in
set_option maxHeartbeats 4000000 in
/-- The first eight rows a point leaves for the next one are the last of its block. -/
theorem tail_A (hc : cond0_0 i)  (y : S264x1536.Idx) (hy : (y 0).val < 8) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc
      I.x0 x1 I.x2 I.x3 I.x4 I.x5 I.x6 I.x7 I.x8 I.x9 I.x10 I.x11 I.x12 I.x13 I.x14 y = last8 x1 y := by
  unfold sout0_A_0
  rw [View.read_writes_junk_eq_canon]
  unfold kernelRun0_A
  dsimp only
  sl_unfold_words
  have hcov : ∀ (off size : Fin 2 → ℕ) (inb), arg18.view.readCov [(⟨Rect.unit (s := S264x1536) ![8, 0] S256x1536.size inb_S264x1536_S256x1536_8_0, x1⟩ : View.Piece (Elt F) S264x1536 .f32), ⟨Rect.unit (s := S264x1536) ![0, 0] S8x1536.size inb_S264x1536_S8x1536_0_0, k0_pay2⟩] (Rect.unit (s := S264x1536) off size inb).toLoadRect
      = View.ld (XB (fun _ => FloatOps.ofBits .f32 0x00000000#32) x1) (Rect.unit (s := S264x1536) off size inb) := fun off size inb => by rw [View.readCov_eq_canon', canon_start]
  have hpv : ∀ (off size : Fin 3 → ℕ) (inb), arg19.view.readCov [(⟨Rect.unit (s := S2x128x512) ![0, 0, 0] S2x128x512.size inb_S2x128x512_S2x128x512_0_0_0, k0_pay3⟩ : View.Piece (Elt F) S2x128x512 .f32)] (Rect.unit (s := S2x128x512) off size inb).toLoadRect
      = View.ld k0_pay3 (Rect.unit (s := S2x128x512) off size inb) := fun off size inb => by exact View.readCov_fill _ _ _ _ _ (by decide)
  have h4 : ∀ v : Vec F S256x1536 .f32, k0_pay4 v = v := fun v => by unfold k0_pay4; exact shapeCast_self _ _
  have h20 : ∀ (L : List (View.Piece (Elt F) S256x1024 .f32)) (r : Rect S256x1024), arg20.view.readCov L r.toLoadRect = View.ld (View.canon L) r := fun L r => View.readCov_eq_canon' _ _ _
  simp (discharger := decide) only [↓View.readAt_eq_ld, ↓harg2.read_unread, ↓harg3.read_unread, ↓harg4.read_unread, ↓harg5.read_unread, ↓harg6.read_unread, ↓harg7.read_unread, ↓harg8.read_unread, ↓harg9.read_unread, ↓harg10.read_unread, ↓harg11.read_unread, ↓harg12.read_unread, ↓harg13.read_unread, ↓harg14.read_unread, ↓harg15.read_unread, ↓harg16.read_unread,
    ↓View.ld_unit_lit', ↓h4, ↓skip0, ↓skip1, ↓View.readCov_cons_toLoadRect, ↓h20]
  simp (discharger := decide) only [hcov, hpv]
  exact canon_tail (fun _ => FloatOps.ofBits .f32 0x00000000#32) x1 _ _ (by unfold k0_pay194; exact shapeCast_self _ _) y hy

end B

end Cert.KernelIdeal.Ssd

end
-- ==== Proof.Spec.lean ====
/-
  The selective state space recurrence as functions of row and column numbers over the extended reals: the causal
  convolution and its silu, the steps, the running log decays of a chunk, the chunk's own product, the states of the
  chunks and their recurrence, the gated and normalised rows. The kernel and the reference are both read as these.
-/
module

public import Idealize.ShloMosaic.Lib.Pointwise

@[expose] public section

noncomputable section

open Idealize.ShloMosaic

namespace Cert.SsdSpec

/-- The arguments, read by number: projections, raw steps, convolution taps and bias, step bias, log rates, skip weights,
    norm weights. -/
structure Args where
  P : ℕ → ℕ → EReal
  D : ℕ → ℕ → EReal
  W : ℕ → ℕ → EReal
  Cb : ℕ → EReal
  Db : ℕ → EReal
  Al : ℕ → EReal
  Ds : ℕ → EReal
  Ng : ℕ → EReal

variable (A : Args)

/-- The row the tap `k` of row `r` meets; before the sequence's first row, zero. -/
def xk (r k j : ℕ) : EReal := if 3 ≤ r % 16384 + k then A.P (r + k - 3) (3072 + j) else 0
/-- `v` times its logistic. -/
def silu (v : EReal) : EReal := v * Ideal.div 1 (1 + Ideal.exp (0 - v))
/-- The convolution at row `r`, column `j`. -/
def cv (r j : ℕ) : EReal :=
  A.Cb j + xk A r 0 j * A.W 0 j + xk A r 1 j * A.W 1 j + xk A r 2 j * A.W 2 j + xk A r 3 j * A.W 3 j
/-- The silu of the convolution. -/
def X (r j : ℕ) : EReal := silu (cv A r j)
/-- Softplus. -/
def sp (v : EReal) : EReal := max v 0 + Ideal.log (1 + Ideal.exp (0 - FloatOps.absf (F := Ideal) (φ := .f32) v))
/-- The step of head `h` at row `r`. -/
def DT (r h : ℕ) : EReal := sp (A.D r h + A.Db h)
/-- The log decay of head `h` at row `r`. -/
def DA (r h : ℕ) : EReal := DT A r h * (0 - Ideal.exp (A.Al h))
/-- The log decays of chunk `q`, summed up to its row `s`. -/
def AC (q s h : ℕ) : EReal := ∑ k ∈ Finset.range (s + 1), DA A (64 * q + k) h
/-- The value at column `c` times its head's step. -/
def XD (r c : ℕ) : EReal := X A r c * DT A r (c / 64)
/-- The row a state is made of. -/
def BB (r g n : ℕ) : EReal := X A r (1024 + 128 * g + n)
/-- The row a state is read by. -/
def CC (r g n : ℕ) : EReal := X A r (1280 + 128 * g + n)
/-- The state chunk `q` makes. -/
def CS (q n c : ℕ) : EReal :=
  ∑ k : Fin 64, BB A (64 * q + k.val) (c / 512) n * (XD A (64 * q + k.val) c * Ideal.exp (AC A q 63 (c / 64) - AC A q k.val (c / 64)))
/-- The state that enters chunk `i` of sequence `b`. -/
def H (b : ℕ) : ℕ → ℕ → ℕ → EReal
  | 0 => fun _ _ => 0
  | i + 1 => fun n c => H b i n c * Ideal.exp (AC A (256 * b + i) 63 (c / 64)) + CS A (256 * b + i) n c
/-- The decay from row `k` to row `s` of chunk `q`. -/
def DE (q s k h : ℕ) : EReal := Ideal.exp (if k ≤ s then AC A q s h - AC A q k h else Ideal.ofBits .f32 0xFF800000#32)
/-- Row `s` of chunk `q` against the chunk's rows. -/
def YD (q s c : ℕ) : EReal :=
  ∑ k : Fin 64, (∑ n : Fin 128, CC A (64 * q + s) (c / 512) n.val * BB A (64 * q + k.val) (c / 512) n.val) * DE A q s k.val (c / 64) * XD A (64 * q + k.val) c
/-- The row: the chunk's own, the entering state's, the skip. -/
def YF (q s c : ℕ) : EReal :=
  YD A q s c + (∑ n : Fin 128, CC A (64 * q + s) (c / 512) n.val * H A (q / 256) (q % 256) n.val c) * Ideal.exp (AC A q s (c / 64))
    + X A (64 * q + s) c * A.Ds (c / 64)
/-- The gated row. -/
def G (r c : ℕ) : EReal := YF A (r / 64) (r % 64) c * silu (A.P r (2048 + c))
/-- The result at row `r`, column `c`. -/
def OUT (r c : ℕ) : EReal :=
  G A r c * Ideal.rsqrt (Ideal.div (∑ k : Fin 512, G A r (512 * (c / 512) + k.val) * G A r (512 * (c / 512) + k.val)) (Ideal.ofBits .f32 0x44000000#32)
    + Ideal.ofBits .f32 0x3727C5AC#32) * A.Ng c

/-- A sum against the indicator of the numbers up to `s`. -/
theorem sum_tri (s : ℕ) (hs : s < 64) (f : ℕ → EReal) :
    ∑ x : Fin 64, (if x.val ≤ s then (1 : EReal) else 0) * f x.val = ∑ k ∈ Finset.range (s + 1), f k := by
  rw [Fin.sum_univ_eq_sum_range (fun k => (if k ≤ s then (1 : EReal) else 0) * f k) 64]
  rw [← Finset.sum_subset (s₁ := Finset.range (s + 1)) (s₂ := Finset.range 64)]
  · refine Finset.sum_congr rfl fun k hk => ?_
    rw [if_pos (by have := Finset.mem_range.mp hk; omega), one_mul]
  · intro k hk; rw [Finset.mem_range] at hk ⊢; omega
  · intro k _ hk
    rw [if_neg (by rw [Finset.mem_range] at hk; omega), zero_mul]

/-- The same within one half of 128 lanes. -/
theorem sum_bd2 (j : ℕ) (hj : j < 128) (f : ℕ → EReal) :
    ∑ x : Fin 128, f x.val * (if x.val / 64 = j / 64 ∧ x.val % 64 ≤ j % 64 then (1 : EReal) else 0)
      = ∑ k ∈ Finset.range (j % 64 + 1), f (64 * (j / 64) + k) := by
  rw [Fin.sum_univ_eq_sum_range (fun x => f x * (if x / 64 = j / 64 ∧ x % 64 ≤ j % 64 then (1 : EReal) else 0)) 128]
  have e : ∑ k ∈ Finset.range (j % 64 + 1), f (64 * (j / 64) + k)
      = ∑ x ∈ (Finset.range (j % 64 + 1)).image (fun k => 64 * (j / 64) + k), f x * (if x / 64 = j / 64 ∧ x % 64 ≤ j % 64 then (1 : EReal) else 0) := by
    rw [Finset.sum_image (by intro a _ b _ h; dsimp only at h; omega)]
    refine Finset.sum_congr rfl fun k hk => ?_
    rw [Finset.mem_range] at hk
    rw [if_pos (by omega), mul_one]
  rw [e]
  symm
  refine Finset.sum_subset (fun x hx => ?_) fun x hx hn => ?_
  · obtain ⟨k, hk, rfl⟩ := Finset.mem_image.mp hx
    rw [Finset.mem_range] at hk ⊢
    omega
  · rw [if_neg, mul_zero]
    rintro ⟨h1, h2⟩
    exact hn (Finset.mem_image.mpr ⟨x % 64, Finset.mem_range.mpr (by omega), by omega⟩)

/-- A sum against the indicator of one number. -/
theorem sum_one (n i : ℕ) (hi : i < n) (f : ℕ → EReal) :
    ∑ x : Fin n, f x.val * (if x.val = i then (1 : EReal) else 0) = f i := by
  rw [Finset.sum_eq_single (⟨i, hi⟩ : Fin n)]
  · simp
  · intro b _ hb
    rw [if_neg (fun h => hb (Fin.ext h)), mul_zero]
  · intro h; exact absurd (Finset.mem_univ _) h

end Cert.SsdSpec

end
-- ==== Proof.KerAt.lean ====
/-
  One grid point of the recurrence kernel, entry by entry: with blocks that hold the arguments' rows of the point and the
  entering state, the point's terms are the recurrence's.
-/
module

public import proofs.«01_k».proof.Proof.BridgeB
public import proofs.«01_k».proof.Proof.Spec
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.KernelIdeal.Ssd

open Cert.KernelIdeal Cert.KernelIdeal.Gen Cert.SsdSpec

/-- The blocks of point `t` hold the arguments' rows of the point, and the state that enters it. -/
structure At (A : Args) (t : ℕ) (I : Blk Ideal) : Prop where
  ht : t < 128
  x0 : ∀ (s : Fin 256) (j : Fin 1024), I.x0 (ix2 s j) = A.P (256 * t + s.val) (2048 + j.val)
  x2 : ∀ (s : Fin 256) (k : Fin 128), I.x2 (ix2 s k) = A.D (256 * t + s.val) k.val
  x3 : ∀ (p : Fin 8) (y : Fin 512), I.x3 (ix2 p y) = A.D (256 * t + 64 * (y.val / 128) + y.val % 64) (2 * p.val + y.val % 128 / 64)
  x4 : ∀ (k : Fin 4) (j : Fin 1536), I.x4 (ix2 k j) = A.W k.val j.val
  x5 : ∀ (z : Fin 1) (j : Fin 1536), I.x5 (ix2 z j) = A.Cb j.val
  x6 : ∀ (z : Fin 1) (k : Fin 128), k.val < 16 → I.x6 (ix2 z k) = A.Db k.val
  x7 : ∀ (z : Fin 1) (k : Fin 128), k.val < 16 → I.x7 (ix2 z k) = A.Al k.val
  x8 : ∀ (p : Fin 8) (k : Fin 128), I.x8 (ix2 p k) = A.Db (2 * p.val + k.val / 64)
  x9 : ∀ (p : Fin 8) (k : Fin 128), I.x9 (ix2 p k) = A.Al (2 * p.val + k.val / 64)
  x10 : ∀ (z : Fin 1) (j : Fin 1024), I.x10 (ix2 z j) = A.Ds (j.val / 64)
  x11 : ∀ (z : Fin 1) (j : Fin 1024), I.x11 (ix2 z j) = A.Ng j.val
  x12 : ∀ (k : Fin 128) (j : Fin 1024), I.x12 (ix2 k j) = if k.val = j.val / 64 then 1 else 0
  x13 : ∀ (s k : Fin 64), I.x13 (ix2 s k) = if k.val ≤ s.val then 1 else 0
  x14 : ∀ (k l : Fin 128), I.x14 (ix2 k l) = if k.val / 64 = l.val / 64 ∧ k.val % 64 ≤ l.val % 64 then 1 else 0
  xb : ∀ (y : Fin 264) (j : Fin 1536), 5 ≤ y.val →
    I.xb (ix2 y j) = if 3 ≤ 256 * t % 16384 + (y.val - 5) then A.P (256 * t + y.val - 8) (3072 + j.val) else 0
  pv : ∀ (g : Fin 2) (n : Fin 128) (j : Fin 512), I.pv (ix3 g n j) = H A (t / 64) (4 * (t % 64)) n.val (512 * g.val + j.val)

variable {A : Args} {t : ℕ} {I : Blk Ideal} (h : At A t I)
include h

/-- The rows of the convolution's buffer a tap meets. -/
theorem At.win (c : Fin 4) (s : Fin 64) (k : ℕ) (hk : k < 4) (y : Fin 264) (hy : y.val = 64 * c.val + (5 + k) + s.val) (j : Fin 1536) :
    I.xb (ix2 y j) = xk A (256 * t + 64 * c.val + s.val) k j.val := by
  rw [h.xb y j (by omega)]
  unfold xk
  have ht := h.ht
  have e1 : 256 * t + y.val - 8 = 256 * t + 64 * c.val + s.val + k - 3 := by omega
  have e2 : (256 * t + 64 * c.val + s.val) % 16384 + k = 256 * t % 16384 + (y.val - 5) := by omega
  rw [e1, e2]

/-- The convolution's silu. -/
theorem XC_at (c : Fin 4) (s : Fin 64) (j : Fin 1536) : XC I c (ix2 s j) = X A (256 * t + 64 * c.val + s.val) j.val := by
  unfold XC X silu cv
  pointwise [k0_pay14, k0_pay15, win, tap]
  simp only [h.win c s 0 (by omega) ⟨64 * c.val + 5 + s.val, by omega⟩ rfl j, h.win c s 1 (by omega) ⟨64 * c.val + 6 + s.val, by omega⟩ rfl j,
    h.win c s 2 (by omega) ⟨64 * c.val + 7 + s.val, by omega⟩ rfl j, h.win c s 3 (by omega) ⟨64 * c.val + 8 + s.val, by omega⟩ rfl j, h.x4, h.x5]
  rfl

/-- The steps, repeated over the columns. -/
theorem DTX_at (s : Fin 256) (j : Fin 1024) : DTX I (ix2 s j) = DT A (256 * t + s.val) (j.val / 64) := by
  unfold DTX
  pointwise [k0_pay5, k0_pay6, k0_pay7]
  refine Eq.trans (Finset.sum_congr rfl fun x _ => ?_) (sum_one 128 (j.val / 64) (by omega) fun x => DT A (256 * t + s.val) x)
  rw [h.x12]
  by_cases hx : x.val = j.val / 64
  · rw [h.x2, h.x6 _ _ (by omega)]; rfl
  · rw [if_neg hx, mul_zero, mul_zero]

/-- The log decays, repeated over the columns. -/
theorem DAX_at (s : Fin 256) (j : Fin 1024) : DAX I (ix2 s j) = DA A (256 * t + s.val) (j.val / 64) := by
  unfold DAX
  pointwise [k0_pay5, k0_pay6, k0_pay8]
  refine Eq.trans (Finset.sum_congr rfl fun x _ => ?_) (sum_one 128 (j.val / 64) (by omega) fun x => DA A (256 * t + s.val) x)
  rw [h.x12]
  by_cases hx : x.val = j.val / 64
  · rw [h.x2, h.x6 _ _ (by omega), h.x7 _ _ (by omega)]; rfl
  · rw [if_neg hx, mul_zero, mul_zero]

/-- The running log decays. -/
theorem ACX_at (c : Fin 4) (s : Fin 64) (j : Fin 1024) : ACX I c (ix2 s j) = AC A (4 * t + c.val) s.val (j.val / 64) := by
  unfold ACX AC
  pointwise [k0_pay10]
  refine Eq.trans (Finset.sum_congr rfl fun x _ => ?_) (sum_tri s.val s.isLt fun k => DA A (64 * (4 * t + c.val) + k) (j.val / 64))
  rw [h.x13, DAX_at h]
  congr 2
  show 256 * t + (64 * c.val + x.val) = _
  omega

/-- The chunk's last running decay. -/
theorem LAST_at (c : Fin 4) (z : Fin 1) (j : Fin 1024) : LAST I c (ix2 z j) = AC A (4 * t + c.val) 63 (j.val / 64) := by
  unfold LAST
  pointwise
  exact ACX_at h c 63 j

/-- The running decays, heads down. -/
theorem AROW_at (c : Fin 4) (p : Fin 8) (j : Fin 128) : AROW I c (ix2 p j) = AC A (4 * t + c.val) (j.val % 64) (2 * p.val + j.val / 64) := by
  unfold AROW AC
  pointwise [k0_pay9, k0_pay11, k0_pay20, k0_pay21, k0_pay22, k0_pay23, TW]
  refine Eq.trans (Finset.sum_congr rfl fun x _ => ?_) ((sum_bd2 j.val j.isLt fun x => DA A (64 * (4 * t + c.val) + x % 64) (2 * p.val + x / 64)).trans
    (Finset.sum_congr rfl fun k hk => ?_))
  · rw [h.x14, h.x3, h.x8, h.x9]
    have e1 : 256 * t + 64 * ((128 * c.val + x.val) / 128) + (128 * c.val + x.val) % 64 = 64 * (4 * t + c.val) + x.val % 64 := by omega
    have e2 : (128 * c.val + x.val) % 128 / 64 = x.val / 64 := by omega
    rw [e1, e2]
    rfl
  · rw [Finset.mem_range] at hk
    rw [show (64 * (j.val / 64) + k) % 64 = k by omega, show (64 * (j.val / 64) + k) / 64 = j.val / 64 by omega]

/-- The values of a chunk. -/
theorem XS_at (c : Fin 4) (s : Fin 64) (j : Fin 1024) : XS I c (ix2 s j) = X A (64 * (4 * t + c.val) + s.val) j.val := by
  unfold XS
  pointwise
  rw [XC_at h]
  congr 1
  omega

/-- The values times their steps. -/
theorem XDT_at (c : Fin 4) (s : Fin 64) (j : Fin 1024) : XDT I c (ix2 s j) = XD A (64 * (4 * t + c.val) + s.val) j.val := by
  unfold XDT XD
  pointwise
  rw [XS_at h, DTX_at h]
  congr 2
  show 256 * t + (64 * c.val + s.val) = _
  omega

/-- The values that make the state. -/
theorem XST_at (c : Fin 4) (s : Fin 64) (j : Fin 1024) : XST I c (ix2 s j)
    = XD A (64 * (4 * t + c.val) + s.val) j.val * Ideal.exp (AC A (4 * t + c.val) 63 (j.val / 64) - AC A (4 * t + c.val) s.val (j.val / 64)) := by
  unfold XST
  pointwise
  rw [XDT_at h, LAST_at h, ACX_at h]

/-- The rows a state is made of. -/
theorem BG_at (c : Fin 4) (g : Fin 2) (s : Fin 64) (n : Fin 128) : BG I c g (ix2 s n) = BB A (64 * (4 * t + c.val) + s.val) g.val n.val := by
  unfold BG BM BB
  pointwise
  rw [XC_at h]
  first | exact congrArg₂ _ (by omega) (by show _ + (_ + _) = _; omega)

/-- The rows a state is read by. -/
theorem CG_at (c : Fin 4) (g : Fin 2) (s : Fin 64) (n : Fin 128) : CG I c g (ix2 s n) = CC A (64 * (4 * t + c.val) + s.val) g.val n.val := by
  unfold CG CM CC
  pointwise
  rw [XC_at h]
  first | exact congrArg₂ _ (by omega) (by show _ + (_ + _) = _; omega)

/-- The state that enters a chunk of the block. -/
theorem PV_at (g : Fin 2) (n : ℕ) (hn : n ≤ 4) (z : Fin 1) (k : Fin 128) (j : Fin 512) :
    PV I g n (ix3 z k j) = H A (t / 64) (4 * (t % 64) + n) k.val (512 * g.val + j.val) := by
  induction n with
  | zero =>
    unfold PV
    pointwise
    exact h.pv g k j
  | succ n ih =>
    have hq : 256 * (t / 64) + (4 * (t % 64) + n) = 4 * t + n := by omega
    have hc : (Fin.ofNat 4 n).val = n := Nat.mod_eq_of_lt (by omega)
    show NXT I (Fin.ofNat 4 n) g (PV I g n) (ix3 z k j) = H A (t / 64) (4 * (t % 64) + n) k.val (512 * g.val + j.val) * Ideal.exp (AC A (256 * (t / 64) + (4 * (t % 64) + n)) 63 ((512 * g.val + j.val) / 64)) + CS A (256 * (t / 64) + (4 * (t % 64) + n)) k.val (512 * g.val + j.val)
    rw [hq]
    unfold NXT CS
    pointwise
    have hz : z = 0 := Subsingleton.elim _ _
    subst hz
    rw [ih (by omega), LAST_at h, hc]
    congr 1
    refine Finset.sum_congr rfl fun x _ => ?_
    rw [BG_at h, XST_at h, hc]
    dsimp only
    rw [show (512 * g.val + j.val) / 512 = g.val by omega]

omit h in
/-- The mask of the decays: the lane's row within its half is at most the row. -/
theorem mask12 (s : Fin 64) (j : Fin 128) : k0_pay12 (ix2 s j) = if j.val % 64 ≤ s.val then 1#1 else 0#1 := by
  unfold k0_pay12
  pointwise
  revert s j
  decide +kernel

omit h in
/-- The mask of the left half of the lanes. -/
theorem mask13 (s : Fin 64) (j : Fin 128) : k0_pay13 (ix2 s j) = if j.val < 64 then 1#1 else 0#1 := by
  unfold k0_pay13
  pointwise
  revert j
  decide +kernel

/-- The masked decays of a pair of heads. -/
theorem DEC_at (c : Fin 4) (g : Fin 2) (p : Fin 4) (s : Fin 64) (j : Fin 128) :
    DEC I c g p (ix2 s j) = DE A (4 * t + c.val) s.val (j.val % 64) (8 * g.val + 2 * p.val + j.val / 64) := by
  unfold DEC DE
  pointwise
  rw [ACX_at h, AROW_at h, mask12]
  have e1 : (512 * g.val + 128 * p.val + j.val) / 64 = 8 * g.val + 2 * p.val + j.val / 64 := by omega
  have e2 : 2 * (4 * g.val + p.val) + j.val / 64 = 8 * g.val + 2 * p.val + j.val / 64 := by omega
  simp only [e1, e2]
  by_cases hj : j.val % 64 ≤ s.val
  · rw [if_pos hj, if_pos hj]; rfl
  · rw [if_neg hj, if_neg hj]; rfl

/-- The row products. -/
theorem CB_at (c : Fin 4) (g : Fin 2) (s : Fin 64) (j : Fin 128) :
    CB I c g (ix2 s j) = ∑ n : Fin 128, CC A (64 * (4 * t + c.val) + s.val) g.val n.val * BB A (64 * (4 * t + c.val) + j.val % 64) g.val n.val := by
  unfold CB
  pointwise
  refine Finset.sum_congr rfl fun n _ => ?_
  by_cases hj : j.val < 64
  · rw [dif_pos hj, CG_at h, BG_at h]
    dsimp only
    rw [show j.val % 64 = j.val by omega]
  · rw [dif_neg hj, CG_at h, BG_at h]
    dsimp only
    rw [show j.val % 64 = j.val - 64 by omega]

/-- The entering state's part. -/
theorem YO_at (c : Fin 4) (g : Fin 2) (s : Fin 64) (j : Fin 512) :
    YO I c g (ix2 s j) = (∑ n : Fin 128, CC A (64 * (4 * t + c.val) + s.val) g.val n.val * H A (t / 64) (4 * (t % 64) + c.val) n.val (512 * g.val + j.val))
      * Ideal.exp (AC A (4 * t + c.val) s.val ((512 * g.val + j.val) / 64)) := by
  unfold YO
  pointwise
  rw [ACX_at h]
  congr 1
  refine Finset.sum_congr rfl fun n _ => ?_
  rw [CG_at h, PV_at h g c.val (by omega)]

/-- The skip. -/
theorem SK_at (c : Fin 4) (s : Fin 64) (j : Fin 1024) : SK I c (ix2 s j) = X A (64 * (4 * t + c.val) + s.val) j.val * A.Ds (j.val / 64) := by
  unfold SK
  pointwise
  rw [XS_at h, h.x10]

/-- A pair of heads' columns. -/
theorem XQ_at (c : Fin 4) (g : Fin 2) (p : Fin 4) (s : Fin 64) (j : Fin 128) :
    XQ I c g p (ix2 s j) = XD A (64 * (4 * t + c.val) + s.val) (512 * g.val + 128 * p.val + j.val) := by
  unfold XQ XDTB
  pointwise
  rw [XDT_at h]

/-- A pair of heads' columns of the rows before the gate. -/
theorem YP_at (c : Fin 4) (g : Fin 2) (p : Fin 4) (s : Fin 64) (j : Fin 128) :
    YP I c g p (ix2 s j) = YF A (4 * t + c.val) s.val (512 * g.val + 128 * p.val + j.val) := by
  unfold YP YF YD
  pointwise [ZB]
  rw [SK_at h, YO_at h]
  have ht := h.ht
  have e1 : (512 * g.val + 128 * p.val + j.val) / 512 = g.val := by omega
  have e2 : (4 * t + c.val) / 256 = t / 64 := by omega
  have e3 : (4 * t + c.val) % 256 = 4 * (t % 64) + c.val := by omega
  have e4 : 512 * g.val + (128 * p.val + j.val) = 512 * g.val + 128 * p.val + j.val := by omega
  simp only [e1, e2, e3, e4]
  congr 2
  by_cases hj : j.val < 64
  · have z2 : (512 * g.val + 128 * p.val + j.val) / 64 = 8 * g.val + 2 * p.val := by omega
    simp only [mask13, if_pos hj]
    refine Eq.trans (congrArg₂ (fun u v : EReal => u + v) (Finset.sum_congr rfl fun x _ => ?_) (Finset.sum_eq_zero fun x _ => rfl)) (add_zero _)
    show CB I c g (ix2 s ⟨x.val, _⟩) * DEC I c g p (ix2 s ⟨x.val, _⟩) * XQ I c g p (ix2 x j) = _
    rw [CB_at h, DEC_at h, XQ_at h, z2]
    dsimp only
    rw [show x.val % 64 = x.val by omega, show 8 * g.val + 2 * p.val + x.val / 64 = 8 * g.val + 2 * p.val by omega]
  · have z2 : (512 * g.val + 128 * p.val + j.val) / 64 = 8 * g.val + 2 * p.val + 1 := by omega
    simp only [mask13, if_neg hj]
    refine Eq.trans (congrArg₂ (fun u v : EReal => u + v) (Finset.sum_eq_zero fun x _ => rfl) (Finset.sum_congr rfl fun x _ => ?_)) (zero_add _)
    show CB I c g (ix2 s ⟨64 + x.val, _⟩) * DEC I c g p (ix2 s ⟨64 + x.val, _⟩) * XQ I c g p (ix2 x j) = _
    rw [CB_at h, DEC_at h, XQ_at h, z2]
    dsimp only
    rw [show (64 + x.val) % 64 = x.val by omega, show 8 * g.val + 2 * p.val + (64 + x.val) / 64 = 8 * g.val + 2 * p.val + 1 by omega]

omit h in
/-- Every store of the rows is one chunk's two heads. -/
theorem mem_YL (I : Blk Ideal) (c : Fin 4) (g : Fin 2) (p : Fin 4) :
    (⟨Rect.unit ![64 * c.val, 512 * g.val + 128 * p.val] S64x128.size (inbY c g p), YP I c g p⟩ : View.Piece (Elt Ideal) S256x1024 .f32) ∈ YL I := by
  have e : (YL I)[31 - (16 * 0 + 8 * c.val + 4 * g.val + p.val)]? = some ⟨Rect.unit ![64 * c.val, 512 * g.val + 128 * p.val] S64x128.size (inbY c g p), YP I c g p⟩ := by
    fin_cases c <;> fin_cases g <;> fin_cases p <;> rfl
  exact List.mem_of_getElem? e

omit h in
/-- The rows before the gate of block `t`. -/
def rowsOf (A : Args) (t : ℕ) : S256x1024.Idx → EReal := fun y => YF A (4 * t + (y 0).val / 64) ((y 0).val % 64) (y 1).val
omit h in
/-- The result's rows of block `t`. -/
def resultsOf (A : Args) (t : ℕ) : S256x1024.Idx → EReal := fun y => SsdSpec.OUT A (256 * t + (y 0).val) (y 1).val

/-- One stored piece. -/
theorem piece_at (c : Fin 4) (g : Fin 2) (p : Fin 4) (x : S64x128.Idx) :
    YP I c g p x = rowsOf A t ((Rect.unit (s := S256x1024) ![64 * c.val, 512 * g.val + 128 * p.val] S64x128.size (inbY c g p)).emb x) := by
  idx_vars x
  rw [YP_at h]
  show _ = YF A (4 * t + (64 * c.val + 1 * x0.val) / 64) ((64 * c.val + 1 * x0.val) % 64) (512 * g.val + 128 * p.val + 1 * x1.val)
  rw [show (64 * c.val + 1 * x0.val) / 64 = c.val by omega, show (64 * c.val + 1 * x0.val) % 64 = x0.val by omega, one_mul]

/-- The rows before the gate. -/
theorem Y_at (r : Fin 256) (j : Fin 1024) : Y I (ix2 r j) = YF A (4 * t + r.val / 64) (r.val % 64) j.val := by
  unfold Y
  rw [View.ld_unit_zero hz2]
  refine View.canon_apply_of_pieces (Val := Elt Ideal) (e := .f32) (rowsOf A t) _ (View.PiecesOf.mem ?_) (ix2 r j) ?_
  · exact
      ⟨piece_at h 3 1 3, piece_at h 3 1 2, piece_at h 3 1 1, piece_at h 3 1 0, piece_at h 3 0 3, piece_at h 3 0 2, piece_at h 3 0 1, piece_at h 3 0 0,
       piece_at h 2 1 3, piece_at h 2 1 2, piece_at h 2 1 1, piece_at h 2 1 0, piece_at h 2 0 3, piece_at h 2 0 2, piece_at h 2 0 1, piece_at h 2 0 0,
       piece_at h 1 1 3, piece_at h 1 1 2, piece_at h 1 1 1, piece_at h 1 1 0, piece_at h 1 0 3, piece_at h 1 0 2, piece_at h 1 0 1, piece_at h 1 0 0,
       piece_at h 0 1 3, piece_at h 0 1 2, piece_at h 0 1 1, piece_at h 0 1 0, piece_at h 0 0 3, piece_at h 0 0 2, piece_at h 0 0 1, piece_at h 0 0 0, trivial⟩
  · refine ⟨_, mem_YL I ⟨r.val / 64, by omega⟩ ⟨j.val / 512, by omega⟩ ⟨j.val % 512 / 128, by omega⟩, ?_⟩
    rw [Rect.mem_set_unit]
    intro a
    match a with
    | ⟨0, _⟩ => exact ⟨by show 64 * (r.val / 64) ≤ r.val; omega, by show r.val < 64 * (r.val / 64) + 64; omega⟩
    | ⟨1, _⟩ => exact ⟨by show 512 * (j.val / 512) + 128 * (j.val % 512 / 128) ≤ j.val; omega, by show j.val < 512 * (j.val / 512) + 128 * (j.val % 512 / 128) + 128; omega⟩

/-- The gated rows. -/
theorem GY_at (r : Fin 256) (j : Fin 1024) : Y I (ix2 r j) * (I.x0 (ix2 r j) * Ideal.div 1 (1 + Ideal.exp (0 - I.x0 (ix2 r j)))) = G A (256 * t + r.val) j.val := by
  rw [Y_at h, h.x0]
  unfold G
  rw [show (256 * t + r.val) / 64 = 4 * t + r.val / 64 by omega, show (256 * t + r.val) % 64 = r.val % 64 by omega]
  rfl

/-- The first half of the columns. -/
theorem O0_at (r : Fin 256) (j : Fin 512) : O0 I (ix2 r j) = SsdSpec.OUT A (256 * t + r.val) j.val := by
  unfold O0 SsdSpec.OUT
  pointwise [k0_pay195, k0_pay196, k0_pay197, k0_pay198]
  simp only [GY_at h, h.x11]
  rw [show j.val / 512 = 0 by omega]
  simp only [Nat.mul_zero, Nat.zero_add]

/-- The second half. -/
theorem O1_at (r : Fin 256) (j : Fin 512) : O1 I (ix2 r j) = SsdSpec.OUT A (256 * t + r.val) (512 + j.val) := by
  unfold O1 SsdSpec.OUT
  pointwise [k0_pay1, k0_pay195, k0_pay196, k0_pay197, k0_pay199, k0_pay200]
  simp only [GY_at h, h.x11]
  rw [show (512 + j.val) / 512 = 1 by omega]

/-- The block's result. -/
theorem OUT_at (r : Fin 256) (j : Fin 1024) : OUT I (ix2 r j) = SsdSpec.OUT A (256 * t + r.val) j.val := by
  unfold OUT
  refine View.canon_apply_of_pieces (Val := Elt Ideal) (e := .f32) (resultsOf A t) _ (View.PiecesOf.mem ?_) (ix2 r j) ?_
  · refine ⟨fun x => ?_, fun x => ?_, trivial⟩
    · idx_vars x
      refine (O1_at h _ _).trans ?_
      show _ = SsdSpec.OUT A (256 * t + (0 + 1 * x0.val)) (512 + 1 * x1.val)
      rw [one_mul, one_mul, Nat.zero_add]
    · idx_vars x
      refine (O0_at h _ _).trans ?_
      show _ = SsdSpec.OUT A (256 * t + (0 + 1 * x0.val)) (0 + 1 * x1.val)
      rw [one_mul, one_mul, Nat.zero_add, Nat.zero_add]
  · by_cases hj : 512 ≤ j.val
    · refine ⟨_, List.mem_cons_self, ?_⟩
      rw [Rect.mem_set_unit]
      intro a
      match a with
      | ⟨0, _⟩ => exact ⟨Nat.zero_le _, by show r.val < 0 + 256; omega⟩
      | ⟨1, _⟩ => exact ⟨hj, by show j.val < 512 + 512; omega⟩
    · refine ⟨_, List.mem_cons_of_mem _ List.mem_cons_self, ?_⟩
      rw [Rect.mem_set_unit]
      intro a
      match a with
      | ⟨0, _⟩ => exact ⟨Nat.zero_le _, by show r.val < 0 + 256; omega⟩
      | ⟨1, _⟩ => exact ⟨Nat.zero_le _, by show j.val < 0 + 512; omega⟩

/-- The state the block leaves. -/
theorem POUT_at (g : Fin 2) (n : Fin 128) (j : Fin 512) : POUT I (ix3 g n j) = H A (t / 64) (4 * (t % 64) + 4) n.val (512 * g.val + j.val) := by
  unfold POUT two
  by_cases hg : g.val = 0
  · rw [if_pos (show ((ix3 g n j : S2x128x512.Idx) 0).val = 0 from hg), hg]
    refine Eq.trans (congrArg (PV I 0 4) (funext fun a => ?_)) (PV_at h 0 4 le_rfl 0 n j)
    match a with
    | ⟨0, _⟩ => rfl
    | ⟨1, _⟩ => rfl
    | ⟨2, _⟩ => rfl
  · rw [if_neg (show ¬((ix3 g n j : S2x128x512.Idx) 0).val = 0 from hg), show g.val = 1 by omega]
    refine Eq.trans (congrArg (PV I 1 4) (funext fun a => ?_)) (PV_at h 1 4 le_rfl 0 n j)
    match a with
    | ⟨0, _⟩ => rfl
    | ⟨1, _⟩ => rfl
    | ⟨2, _⟩ => rfl

end Cert.KernelIdeal.Ssd

end
-- ==== Proof.KerHost.lean ====
/-
  The arrays the recurrence kernel's host part prepares, entry by entry: the gates' values by head and place, the
  parameters spread over lanes, and the indicator matrices.
-/
module

public import proofs.«01_k».proof.Proof.BridgeB
public import proofs.«01_k».proof.Proof.Spec
public import proofs.«01_k».proof.Proof.Gen.KernelIdeal.Value
public import Idealize.ShloMosaic.Lib.StableHlo.ReadAt
public import Idealize.ShloMosaic.Lib.Pointwise
public import Idealize.ShloMosaic.Lib.Pipeline.ValueKit.Geometry
public import Idealize.ShloMosaic.Lib.Pipeline.ValueKit.Acc
public import Idealize.ShloMosaic.Lib.Pipeline.ReadBack

@[expose] public section

set_option maxRecDepth 16384

noncomputable section

open Idealize.ShloMosaic Idealize.ShloMosaic.TcCoe Idealize.SL.Sem

namespace Cert.KernelIdeal.Ssd

open Cert.KernelIdeal Cert.KernelIdeal.Gen Cert.SsdSpec

variable (m : ∀ l : Loc nD τ sig, Buf (Elt Ideal) l) (c : Dev nD)

/-- The quotient by 64 rounded down, as the host part computes it. -/
def fdiv (a : BitVec 32) : BitVec 32 :=
  Scalar.select (IntOp.andi (IntOp.cmpi .ne (if a = 0 then (0 : BitVec 32) else if a.msb = true then -1 else 1)
      (if (64#32 : BitVec 32) = 0 then 0 else if BitVec.msb 64#32 = true then -1 else 1))
    (IntOp.cmpi .ne (IntOp.remsi .host a 64#32) 0#32)) (IntOp.subi (IntOp.divsi .host a 64#32) 1#32) (IntOp.divsi .host a 64#32)

/-- The remainder by 64 with the divisor's sign, as the host part computes it. -/
def frem (a : BitVec 32) : BitVec 32 :=
  let d : BitVec 32 := Scalar.select (IntOp.cmpi .eq 64#32 0#32) 1#32 64#32
  Scalar.select (IntOp.andi (IntOp.cmpi .ne (IntOp.cmpi .slt (IntOp.remsi .host a d) 0#32) (IntOp.cmpi .slt d 0#32))
    (IntOp.cmpi .ne (IntOp.remsi .host a d) 0#32)) (IntOp.addi (IntOp.remsi .host a d) d) (IntOp.remsi .host a d)

/-- The floor division the column numbers go through. -/
theorem fdiv_eq : ∀ j : Fin 1024, fdiv (BitVec.ofNat 32 j.val) = BitVec.ofNat 32 (j.val / 64) := by decide +kernel
/-- The remainder the row numbers go through. -/
theorem frem_eq : ∀ j : Fin 128, frem (BitVec.ofNat 32 j.val) = BitVec.ofNat 32 (j.val % 64) := by decide +kernel
/-- Equality as a bit. -/
theorem eq_bit : ∀ (k : Fin 128) (q : Fin 16), IntOp.cmpi .eq (BitVec.ofNat 32 k.val) (BitVec.ofNat 32 q.val) = if k.val = q.val then 1#1 else 0#1 := by
  decide +kernel
/-- The comparison as a bit. -/
theorem sge_bit : ∀ s k : Fin 64, IntOp.cmpi .sge (BitVec.ofNat 32 s.val) (BitVec.ofNat 32 k.val) = if k.val ≤ s.val then 1#1 else 0#1 := by
  decide +kernel
/-- The other comparison as a bit. -/
theorem sle_bit : ∀ s k : Fin 64, IntOp.cmpi .sle (BitVec.ofNat 32 s.val) (BitVec.ofNat 32 k.val) = if s.val ≤ k.val then 1#1 else 0#1 := by
  decide +kernel

/-- An indicator bit as a number. -/
theorem bit_val (P : Prop) [Decidable P] : FloatOps.uitofp (F := Ideal) FTy.f32 (if P then 1#1 else 0#1) = if P then (1 : EReal) else 0 := by
  split
  · show (((1#1 : BitVec 1).toNat : ℝ) : EReal) = 1
    norm_num
  · show (((0#1 : BitVec 1).toNat : ℝ) : EReal) = 0
    norm_num

/-- The table of raw steps, heads first. -/
theorem V_v3 (p : Fin 8) (y : Fin 65536) : V m c main_v3 (ix2 p y)
    = m ((c : Thread nD τ).loc main_arg1) (ix2 (n0 := 32768) (n1 := 128) ⟨64 * (y.val / 128) + y.val % 64, by omega⟩ ⟨2 * p.val + y.val % 128 / 64, by omega⟩) := by
  unfold V
  simp only [List.flatten_cons, List.flatten_nil]
  after_reads_at
  exact congrArg _ (congrArg₂ _ (Fin.ext (by show _ = _; dsimp only; omega)) (Fin.ext (by show _ = _; dsimp only; omega)))

/-- The step bias, padded. -/
theorem V_v5 (z : Fin 1) (k : Fin 128) (hk : k.val < 16) : V m c main_v5 (ix2 z k) = m ((c : Thread nD τ).loc main_arg4) (ix1 (n0 := 16) ⟨k.val, hk⟩) := by
  unfold V
  simp only [List.flatten_cons, List.flatten_nil]
  after_reads_at
  rw [dif_pos hk]

/-- The step bias by head, down a column. -/
theorem V_v10 (p : Fin 8) (k : Fin 128) : V m c main_v10 (ix2 p k) = m ((c : Thread nD τ).loc main_arg4) (ix1 (n0 := 16) ⟨2 * p.val + k.val / 64, by omega⟩) := by
  unfold V
  simp only [List.flatten_cons, List.flatten_nil]
  after_reads_at
  exact congrArg _ (congrArg _ (Fin.ext (by show _ = _; dsimp only; omega)))

/-- The skip weights, repeated over a head's columns. -/
theorem V_v16 (z : Fin 1) (j : Fin 1024) : V m c main_v16 (ix2 z j) = m ((c : Thread nD τ).loc main_arg6) (ix1 (n0 := 16) ⟨j.val / 64, by omega⟩) := by
  unfold V
  simp only [List.flatten_cons, List.flatten_nil]
  after_reads_at

/-- The table that repeats a head over its columns. -/
theorem V_v25 (k : Fin 128) (j : Fin 1024) : V m c main_v25 (ix2 k j) = if k.val = j.val / 64 then (1 : EReal) else 0 := by
  unfold V
  simp only [List.flatten_cons, List.flatten_nil]
  after_reads_at
  show FloatOps.uitofp (F := Ideal) FTy.f32 (IntOp.cmpi .eq (BitVec.ofNat 32 k.val) (fdiv (BitVec.ofNat 32 j.val))) = _
  rw [fdiv_eq, eq_bit k ⟨j.val / 64, by omega⟩, bit_val]

/-- The lower triangle. -/
theorem V_v32 (s k : Fin 64) : V m c main_v32 (ix2 s k) = if k.val ≤ s.val then (1 : EReal) else 0 := by
  unfold V
  simp only [List.flatten_cons, List.flatten_nil]
  after_reads_at
  rw [sge_bit, bit_val]

/-- The upper triangle in each half. -/
theorem V_v49 (k l : Fin 128) : V m c main_v49 (ix2 k l) = if k.val / 64 = l.val / 64 ∧ k.val % 64 ≤ l.val % 64 then (1 : EReal) else 0 := by
  unfold V
  simp only [List.flatten_cons, List.flatten_nil]
  after_reads_at
  show FloatOps.uitofp (F := Ideal) FTy.f32 (IntOp.andi (IntOp.cmpi .eq (fdiv (BitVec.ofNat 32 k.val)) (fdiv (BitVec.ofNat 32 l.val)))
    (IntOp.cmpi .sle (frem (BitVec.ofNat 32 k.val)) (frem (BitVec.ofNat 32 l.val)))) = _
  rw [fdiv_eq ⟨k.val, by omega⟩, fdiv_eq ⟨l.val, by omega⟩, frem_eq, frem_eq, eq_bit ⟨k.val / 64, by omega⟩ ⟨l.val / 64, by omega⟩,
    sle_bit ⟨k.val % 64, by omega⟩ ⟨l.val % 64, by omega⟩, ← bit_val]
  refine congrArg _ ?_
  dsimp only
  by_cases h1 : k.val / 64 = l.val / 64 <;> by_cases h2 : k.val % 64 ≤ l.val % 64 <;> simp only [h1, h2, if_true, if_false, and_self, and_true, true_and, and_false, false_and] <;> rfl

/-- The convolution's bias as a row. -/
theorem V_v50 (z : Fin 1) (j : Fin 1536) : V m c main_v50 (ix2 z j) = m ((c : Thread nD τ).loc main_arg3) (ix1 (n0 := 1536) j) := by
  unfold V
  simp only [List.flatten_cons, List.flatten_nil]
  after_reads_at

/-- The log rates, padded. -/
theorem V_v7 (z : Fin 1) (k : Fin 128) (hk : k.val < 16) : V m c main_v7 (ix2 z k) = m ((c : Thread nD τ).loc main_arg5) (ix1 (n0 := 16) ⟨k.val, hk⟩) := by
  unfold V
  simp only [List.flatten_cons, List.flatten_nil]
  after_reads_at
  rw [dif_pos hk]

/-- The log rates by head, down a column. -/
theorem V_v13 (p : Fin 8) (k : Fin 128) : V m c main_v13 (ix2 p k) = m ((c : Thread nD τ).loc main_arg5) (ix1 (n0 := 16) ⟨2 * p.val + k.val / 64, by omega⟩) := by
  unfold V
  simp only [List.flatten_cons, List.flatten_nil]
  after_reads_at
  exact congrArg _ (congrArg _ (Fin.ext (by show _ = _; dsimp only; omega)))

/-- The norm weights as a row. -/
theorem V_v51 (z : Fin 1) (j : Fin 1024) : V m c main_v51 (ix2 z j) = m ((c : Thread nD τ).loc main_arg7) (ix1 (n0 := 1024) j) := by
  unfold V
  simp only [List.flatten_cons, List.flatten_nil]
  after_reads_at

end Cert.KernelIdeal.Ssd
-- ==== Proof.SsdArgs.lean ====
/-
  The recurrence's arguments as functions of row and column numbers.
-/
module

public import proofs.«01_k».proof.Proof.Spec
public import Idealize.ShloMosaic.Lib.Pointwise

@[expose] public section

noncomputable section

open Idealize.ShloMosaic

namespace Cert.SsdSpec

/-- A vector's entry at a number, zero past its end. -/
def tot1 {a : ℕ} (v : (⟨1, ![a]⟩ : Shape).Idx → EReal) (i : ℕ) : EReal := if h : i < a then v (ix1 ⟨i, h⟩) else 0
/-- A matrix's entry at two numbers, zero past its ends. -/
def tot2 {a b : ℕ} (v : (⟨2, ![a, b]⟩ : Shape).Idx → EReal) (i j : ℕ) : EReal := if h : i < a ∧ j < b then v (ix2 ⟨i, h.1⟩ ⟨j, h.2⟩) else 0

/-- Within the vector it is the entry. -/
theorem tot1_at {a : ℕ} (v : (⟨1, ![a]⟩ : Shape).Idx → EReal) (i : ℕ) (h : i < a) : v (ix1 ⟨i, h⟩) = tot1 v i := by
  unfold tot1
  rw [dif_pos h]
/-- Within the matrix it is the entry. -/
theorem tot2_at {a b : ℕ} (v : (⟨2, ![a, b]⟩ : Shape).Idx → EReal) (i j : ℕ) (h : i < a) (h' : j < b) : v (ix2 ⟨i, h⟩ ⟨j, h'⟩) = tot2 v i j := by
  unfold tot2
  rw [dif_pos ⟨h, h'⟩]

/-- The arguments of the recurrence, from its eight arrays. -/
def argsOf (p : (⟨2, ![32768, 4608]⟩ : Shape).Idx → EReal) (d : (⟨2, ![32768, 128]⟩ : Shape).Idx → EReal) (w : (⟨2, ![4, 1536]⟩ : Shape).Idx → EReal)
    (cb : (⟨1, ![1536]⟩ : Shape).Idx → EReal) (db al ds : (⟨1, ![16]⟩ : Shape).Idx → EReal) (ng : (⟨1, ![1024]⟩ : Shape).Idx → EReal) : Args where
  P := tot2 p
  D := tot2 d
  W := tot2 w
  Cb := tot1 cb
  Db := tot1 db
  Al := tot1 al
  Ds := tot1 ds
  Ng := tot1 ng

end Cert.SsdSpec
-- ==== Proof.Ker.lean ====
/-
  The recurrence kernel's result array: what each grid point's blocks hold, the induction over the points, the array.
-/
module

public import proofs.«01_k».proof.Proof.KerAt
public import proofs.«01_k».proof.Proof.KerHost
public import proofs.«01_k».proof.Proof.SsdArgs
public import Idealize.ShloMosaic.Lib.Pipeline.ValueKit.Geometry
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.Ssd

open Cert.KernelIdeal Cert.KernelIdeal.Gen Cert.SsdSpec

variable (m : (ℓ : Loc nD τ sig) → Buf (Elt Ideal) ℓ) (c : Dev nD)

/-- The arguments a memory holds. -/
def args : Args :=
  argsOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- Where the moving blocks of a point lie. -/
theorem idxs (t : Fin cfg0.N) : win0_0.index t = ![t.val, 2] ∧ win0_1.index t = ![t.val, 2] ∧ win0_2.index t = ![t.val, 0] ∧ win0_3.index t = ![0, t.val]
    ∧ win0_15.index t = ![t.val, 0] :=
  (by decide +kernel : ∀ t : Fin grid0.N, win0_0.index t = ![t.val, 2] ∧ win0_1.index t = ![t.val, 2] ∧ win0_2.index t = ![t.val, 0] ∧ win0_3.index t = ![0, t.val]
    ∧ win0_15.index t = ![t.val, 0]) t
/-- The other inputs have one block. -/
theorem idxz (t : Fin cfg0.N) : win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] ∧ win0_14.index t = ![0, 0]) t

/-- There are 128 blocks. -/
theorem tlt (t : Fin cfg0.N) : t.val < 128 := lt_of_lt_of_eq t.isLt (show cfg0.N = 128 from N_0)

/-! The blocks of a point, each as an array of its own shape. -/
/-- Input 0 of a point. -/
@[irreducible] def B0 (t : Fin cfg0.N) : Vec Ideal S256x1024 .f32 := X0_0 m c t
/-- Input 1 of a point. -/
@[irreducible] def B1 (t : Fin cfg0.N) : Vec Ideal S256x1536 .f32 := iblk m c 1 t
/-- Input 2 of a point. -/
@[irreducible] def B2 (t : Fin cfg0.N) : Vec Ideal S256x128 .f32 := iblk m c 2 t
/-- Input 3 of a point. -/
@[irreducible] def B3 (t : Fin cfg0.N) : Vec Ideal S8x512 .f32 := iblk m c 3 t
/-- Input 4 of a point. -/
@[irreducible] def B4 (t : Fin cfg0.N) : Vec Ideal S4x1536 .f32 := iblk m c 4 t
/-- Input 5 of a point. -/
@[irreducible] def B5 (t : Fin cfg0.N) : Vec Ideal S1x1536 .f32 := iblk m c 5 t
/-- Input 6 of a point. -/
@[irreducible] def B6 (t : Fin cfg0.N) : Vec Ideal S1x128 .f32 := iblk m c 6 t
/-- Input 7 of a point. -/
@[irreducible] def B7 (t : Fin cfg0.N) : Vec Ideal S1x128 .f32 := iblk m c 7 t
/-- Input 8 of a point. -/
@[irreducible] def B8 (t : Fin cfg0.N) : Vec Ideal S8x128 .f32 := iblk m c 8 t
/-- Input 9 of a point. -/
@[irreducible] def B9 (t : Fin cfg0.N) : Vec Ideal S8x128 .f32 := iblk m c 9 t
/-- Input 10 of a point. -/
@[irreducible] def B10 (t : Fin cfg0.N) : Vec Ideal S1x1024 .f32 := iblk m c 10 t
/-- Input 11 of a point. -/
@[irreducible] def B11 (t : Fin cfg0.N) : Vec Ideal S1x1024 .f32 := iblk m c 11 t
/-- Input 12 of a point. -/
@[irreducible] def B12 (t : Fin cfg0.N) : Vec Ideal S128x1024 .f32 := iblk m c 12 t
/-- Input 13 of a point. -/
@[irreducible] def B13 (t : Fin cfg0.N) : Vec Ideal S64x64 .f32 := iblk m c 13 t
/-- Input 14 of a point. -/
@[irreducible] def B14 (t : Fin cfg0.N) : Vec Ideal S128x128 .f32 := iblk m c 14 t
theorem B0_eq (t : Fin cfg0.N) : X0_0 m c t = B0 m c t := by unfold B0; rfl
/-- Input 1 of a point by its name. -/
theorem B1_eq (t : Fin cfg0.N) : iblk m c 1 t = B1 m c t := by unfold B1; rfl
/-- Input 2 of a point by its name. -/
theorem B2_eq (t : Fin cfg0.N) : iblk m c 2 t = B2 m c t := by unfold B2; rfl
/-- Input 3 of a point by its name. -/
theorem B3_eq (t : Fin cfg0.N) : iblk m c 3 t = B3 m c t := by unfold B3; rfl
/-- Input 4 of a point by its name. -/
theorem B4_eq (t : Fin cfg0.N) : iblk m c 4 t = B4 m c t := by unfold B4; rfl
/-- Input 5 of a point by its name. -/
theorem B5_eq (t : Fin cfg0.N) : iblk m c 5 t = B5 m c t := by unfold B5; rfl
/-- Input 6 of a point by its name. -/
theorem B6_eq (t : Fin cfg0.N) : iblk m c 6 t = B6 m c t := by unfold B6; rfl
/-- Input 7 of a point by its name. -/
theorem B7_eq (t : Fin cfg0.N) : iblk m c 7 t = B7 m c t := by unfold B7; rfl
/-- Input 8 of a point by its name. -/
theorem B8_eq (t : Fin cfg0.N) : iblk m c 8 t = B8 m c t := by unfold B8; rfl
/-- Input 9 of a point by its name. -/
theorem B9_eq (t : Fin cfg0.N) : iblk m c 9 t = B9 m c t := by unfold B9; rfl
/-- Input 10 of a point by its name. -/
theorem B10_eq (t : Fin cfg0.N) : iblk m c 10 t = B10 m c t := by unfold B10; rfl
/-- Input 11 of a point by its name. -/
theorem B11_eq (t : Fin cfg0.N) : iblk m c 11 t = B11 m c t := by unfold B11; rfl
/-- Input 12 of a point by its name. -/
theorem B12_eq (t : Fin cfg0.N) : iblk m c 12 t = B12 m c t := by unfold B12; rfl
/-- Input 13 of a point by its name. -/
theorem B13_eq (t : Fin cfg0.N) : iblk m c 13 t = B13 m c t := by unfold B13; rfl
/-- Input 14 of a point by its name. -/
theorem B14_eq (t : Fin cfg0.N) : iblk m c 14 t = B14 m c t := by unfold B14; rfl

/-- The gate: columns 2048 on of the projection, at the rows of block `t`. -/
theorem b0 (t : Fin cfg0.N) (s : Fin 256) (j : Fin 1024) : B0 m c t (ix2 s j) = (args m c).P (256 * t.val + s.val) (2048 + j.val) := by
  have ht := tlt t
  obtain ⟨e0, e1, e2, e3, e15⟩ := idxs t
  refine Eq.trans ?_ (tot2_at (m ((c : Thread nD τ).loc main_arg0)) _ _ (by omega) (by omega))
  unfold B0 X0_0 Pipeline.Window.fill
  rw [dif_pos (moved0_0 t _)]
  blk_simp [iblk]
  rw [V_main_arg0]
  refine congrArg (m ((c : Thread nD τ).loc main_arg0)) ?_
  blk_ext [e0]

/-- What the convolution reads: columns 3072 on of the projection, at the rows of block `t`. -/
theorem b1 (t : Fin cfg0.N) (s : Fin 256) (j : Fin 1536) : B1 m c t (ix2 s j) = (args m c).P (256 * t.val + s.val) (3072 + j.val) := by
  have ht := tlt t
  obtain ⟨e0, e1, e2, e3, e15⟩ := idxs t
  refine Eq.trans ?_ (tot2_at (m ((c : Thread nD τ).loc main_arg0)) _ _ (by omega) (by omega))
  unfold B1
  blk_simp [iblk]
  rw [V_main_arg0]
  refine congrArg (m ((c : Thread nD τ).loc main_arg0)) ?_
  blk_ext [e1]

/-- The raw steps at the rows of block `t`. -/
theorem b2 (t : Fin cfg0.N) (s : Fin 256) (j : Fin 128) : B2 m c t (ix2 s j) = (args m c).D (256 * t.val + s.val) j.val := by
  have ht := tlt t
  obtain ⟨e0, e1, e2, e3, e15⟩ := idxs t
  refine Eq.trans ?_ (tot2_at (m ((c : Thread nD τ).loc main_arg1)) _ _ (by omega) (by omega))
  unfold B2
  blk_simp [iblk]
  rw [V_main_arg1]
  refine congrArg (m ((c : Thread nD τ).loc main_arg1)) ?_
  blk_ext [e2]

/-- The raw steps transposed: row `p` holds heads `2p` and `2p + 1`, chunk by chunk. -/
theorem b3 (t : Fin cfg0.N) (p : Fin 8) (y : Fin 512) :
    B3 m c t (ix2 p y) = (args m c).D (256 * t.val + 64 * (y.val / 128) + y.val % 64) (2 * p.val + y.val % 128 / 64) := by
  have ht := tlt t
  obtain ⟨e0, e1, e2, e3, e15⟩ := idxs t
  have e : B3 m c t (ix2 p y) = V m c main_v3 (ix2 p ⟨512 * t.val + y.val, by omega⟩) := by
    unfold B3
    blk_simp [iblk]
    refine congrArg (V m c main_v3) ?_
    blk_ext [e3]
  rw [e, V_v3]
  refine (tot2_at (m ((c : Thread nD τ).loc main_arg1)) _ _ _ _).trans (congrArg₂ (tot2 (m ((c : Thread nD τ).loc main_arg1))) ?_ ?_)
  · dsimp only
    omega
  · dsimp only
    omega

/-- The taps of the convolution. -/
theorem b4 (t : Fin cfg0.N) (k : Fin 4) (j : Fin 1536) : B4 m c t (ix2 k j) = (args m c).W k.val j.val := by
  obtain ⟨e4, e5, e6, e7, e8, e9, e10, e11, e12, e13, e14⟩ := idxz t
  refine Eq.trans ?_ (tot2_at (m ((c : Thread nD τ).loc main_arg2)) _ _ (by omega) (by omega))
  unfold B4
  blk_simp [iblk]
  rw [V_main_arg2]
  refine congrArg (m ((c : Thread nD τ).loc main_arg2)) ?_
  blk_ext [e4]

/-- The convolution's bias, whole. -/
theorem b5 (t : Fin cfg0.N) (z : Fin 1) (j : Fin 1536) : B5 m c t (ix2 z j) = V m c main_v50 (ix2 z j) := by
  obtain ⟨e4, e5, e6, e7, e8, e9, e10, e11, e12, e13, e14⟩ := idxz t
  unfold B5
  blk_simp [iblk]
  refine congrArg (V m c main_v50) ?_
  blk_ext [e5]
/-- The step bias, padded, whole. -/
theorem b6 (t : Fin cfg0.N) (z : Fin 1) (j : Fin 128) : B6 m c t (ix2 z j) = V m c main_v5 (ix2 z j) := by
  obtain ⟨e4, e5, e6, e7, e8, e9, e10, e11, e12, e13, e14⟩ := idxz t
  unfold B6
  blk_simp [iblk]
  refine congrArg (V m c main_v5) ?_
  blk_ext [e6]
/-- The log rates, padded, whole. -/
theorem b7 (t : Fin cfg0.N) (z : Fin 1) (j : Fin 128) : B7 m c t (ix2 z j) = V m c main_v7 (ix2 z j) := by
  obtain ⟨e4, e5, e6, e7, e8, e9, e10, e11, e12, e13, e14⟩ := idxz t
  unfold B7
  blk_simp [iblk]
  refine congrArg (V m c main_v7) ?_
  blk_ext [e7]
/-- The step bias by head, whole. -/
theorem b8 (t : Fin cfg0.N) (z : Fin 8) (j : Fin 128) : B8 m c t (ix2 z j) = V m c main_v10 (ix2 z j) := by
  obtain ⟨e4, e5, e6, e7, e8, e9, e10, e11, e12, e13, e14⟩ := idxz t
  unfold B8
  blk_simp [iblk]
  refine congrArg (V m c main_v10) ?_
  blk_ext [e8]
/-- The log rates by head, whole. -/
theorem b9 (t : Fin cfg0.N) (z : Fin 8) (j : Fin 128) : B9 m c t (ix2 z j) = V m c main_v13 (ix2 z j) := by
  obtain ⟨e4, e5, e6, e7, e8, e9, e10, e11, e12, e13, e14⟩ := idxz t
  unfold B9
  blk_simp [iblk]
  refine congrArg (V m c main_v13) ?_
  blk_ext [e9]
/-- The skip weights, whole. -/
theorem b10 (t : Fin cfg0.N) (z : Fin 1) (j : Fin 1024) : B10 m c t (ix2 z j) = V m c main_v16 (ix2 z j) := by
  obtain ⟨e4, e5, e6, e7, e8, e9, e10, e11, e12, e13, e14⟩ := idxz t
  unfold B10
  blk_simp [iblk]
  refine congrArg (V m c main_v16) ?_
  blk_ext [e10]
/-- The norm's scales, whole. -/
theorem b11 (t : Fin cfg0.N) (z : Fin 1) (j : Fin 1024) : B11 m c t (ix2 z j) = V m c main_v51 (ix2 z j) := by
  obtain ⟨e4, e5, e6, e7, e8, e9, e10, e11, e12, e13, e14⟩ := idxz t
  unfold B11
  blk_simp [iblk]
  refine congrArg (V m c main_v51) ?_
  blk_ext [e11]
/-- The table that repeats a head over its columns, whole. -/
theorem b12 (t : Fin cfg0.N) (z : Fin 128) (j : Fin 1024) : B12 m c t (ix2 z j) = V m c main_v25 (ix2 z j) := by
  obtain ⟨e4, e5, e6, e7, e8, e9, e10, e11, e12, e13, e14⟩ := idxz t
  unfold B12
  blk_simp [iblk]
  refine congrArg (V m c main_v25) ?_
  blk_ext [e12]
/-- The table of running sums down the rows, whole. -/
theorem b13 (t : Fin cfg0.N) (z : Fin 64) (j : Fin 64) : B13 m c t (ix2 z j) = V m c main_v32 (ix2 z j) := by
  obtain ⟨e4, e5, e6, e7, e8, e9, e10, e11, e12, e13, e14⟩ := idxz t
  unfold B13
  blk_simp [iblk]
  refine congrArg (V m c main_v32) ?_
  blk_ext [e13]
/-- The table of running sums along the lanes, whole. -/
theorem b14 (t : Fin cfg0.N) (z : Fin 128) (j : Fin 128) : B14 m c t (ix2 z j) = V m c main_v49 (ix2 z j) := by
  obtain ⟨e4, e5, e6, e7, e8, e9, e10, e11, e12, e13, e14⟩ := idxz t
  unfold B14
  blk_simp [iblk]
  refine congrArg (V m c main_v49) ?_
  blk_ext [e14]

/-- The blocks of a point, over the convolution's buffer and the entering state. -/
def blkOf (t : Fin cfg0.N) (xb : Vec Ideal S264x1536 .f32) (pv : Vec Ideal S2x128x512 .f32) : Blk Ideal where
  x0 := B0 m c t
  x2 := B2 m c t
  x3 := B3 m c t
  x4 := B4 m c t
  x5 := B5 m c t
  x6 := B6 m c t
  x7 := B7 m c t
  x8 := B8 m c t
  x9 := B9 m c t
  x10 := B10 m c t
  x11 := B11 m c t
  x12 := B12 m c t
  x13 := B13 m c t
  x14 := B14 m c t
  xb := xb
  pv := pv

/-- The block's inputs are the specification's arguments at its rows. -/
theorem at_of (t : Fin cfg0.N) (hd : S264x1536.Idx → EReal) (pv : Vec Ideal S2x128x512 .f32)
    (hh : ∀ (y : Fin 264) (j : Fin 1536), 5 ≤ y.val → y.val < 8 →
      hd (ix2 y j) = if 3 ≤ 256 * t.val % 16384 + (y.val - 5) then (args m c).P (256 * t.val + y.val - 8) (3072 + j.val) else 0)
    (hp : ∀ (g : Fin 2) (n : Fin 128) (j : Fin 512), pv (ix3 g n j) = H (args m c) (t.val / 64) (4 * (t.val % 64)) n.val (512 * g.val + j.val)) :
    At (args m c) t.val (blkOf m c t (XB hd (B1 m c t)) pv) where
  ht := tlt t
  x0 := b0 m c t
  x2 := b2 m c t
  x3 := b3 m c t
  x4 := b4 m c t
  x5 := fun z j => (b5 m c t z j).trans ((V_v50 m c z j).trans (tot1_at (m ((c : Thread nD τ).loc main_arg3)) _ _))
  x6 := fun z k hk => (b6 m c t z k).trans ((V_v5 m c z k hk).trans (tot1_at (m ((c : Thread nD τ).loc main_arg4)) _ _))
  x7 := fun z k hk => (b7 m c t z k).trans ((V_v7 m c z k hk).trans (tot1_at (m ((c : Thread nD τ).loc main_arg5)) _ _))
  x8 := fun p k => (b8 m c t p k).trans ((V_v10 m c p k).trans (tot1_at (m ((c : Thread nD τ).loc main_arg4)) _ _))
  x9 := fun p k => (b9 m c t p k).trans ((V_v13 m c p k).trans (tot1_at (m ((c : Thread nD τ).loc main_arg5)) _ _))
  x10 := fun z j => (b10 m c t z j).trans ((V_v16 m c z j).trans (tot1_at (m ((c : Thread nD τ).loc main_arg6)) _ _))
  x11 := fun z j => (b11 m c t z j).trans ((V_v51 m c z j).trans (tot1_at (m ((c : Thread nD τ).loc main_arg7)) _ _))
  x12 := fun k j => (b12 m c t k j).trans (V_v25 m c k j)
  x13 := fun s k => (b13 m c t s k).trans (V_v32 m c s k)
  x14 := fun k l => (b14 m c t k l).trans (V_v49 m c k l)
  xb := fun y j hy => by
    by_cases h8 : 8 ≤ y.val
    · refine (dif_pos h8).trans ?_
      rw [if_pos (by omega)]
      refine Eq.trans (congrArg (B1 m c t) (?_ : _ = ix2 (n0 := 256) (n1 := 1536) ⟨y.val - 8, by omega⟩ j)) ((b1 m c t _ _).trans ?_)
      · funext a
        fin_cases a <;> rfl
      · exact congrArg₂ (args m c).P (by show _ + (y.val - 8) = _; omega) rfl
    · exact (dif_neg h8).trans (hh y j hy (by omega))
  pv := hp

/-- What a point leaves: its rows of the result, the block's last rows, and the state after its four chunks. -/
structure Left (A : Args) (n : ℕ) (o : Vec Ideal S256x1024 .f32 × Vec Ideal S264x1536 .f32 × Vec Ideal S2x128x512 .f32) : Prop where
  rows : ∀ (r : Fin 256) (j : Fin 1024), o.1 (ix2 r j) = SsdSpec.OUT A (256 * n + r.val) j.val
  tail : ∀ (y : Fin 264) (j : Fin 1536), y.val < 8 → o.2.1 (ix2 y j) = A.P (256 * n + 248 + y.val) (3072 + j.val)
  st : ∀ (g : Fin 2) (k : Fin 128) (j : Fin 512), o.2.2 (ix3 g k j) = H A (n / 64) (4 * (n % 64) + 4) k.val (512 * g.val + j.val)

/-- What the block leaves for the next one's convolution. -/
theorem last8_at (t : Fin cfg0.N) (y : Fin 264) (j : Fin 1536) (hy : y.val < 8) :
    last8 (B1 m c t) (ix2 y j) = (args m c).P (256 * t.val + 248 + y.val) (3072 + j.val) := by
  refine (dif_pos hy).trans ?_
  refine Eq.trans (congrArg (B1 m c t) (?_ : _ = ix2 (n0 := 256) (n1 := 1536) ⟨y.val + 248, by omega⟩ j)) ((b1 m c t _ _).trans ?_)
  · funext a
    fin_cases a <;> rfl
  · exact congrArg₂ (args m c).P (by show _ + (y.val + 248) = _; omega) rfl

/-- The word of zero is zero. -/
theorem zero_bits : (FloatOps.ofBits (F := Ideal) .f32 0x00000000#32 : EReal) = 0 := by
  pointwise

set_option maxHeartbeats 1000000 in
/-- A sequence's first point leaves what the specification says. -/
theorem left_A (t : Fin cfg0.N) (h0 : t.val % 64 = 0) : Left (args m c) t.val (outsAt0 m c t.val t.isLt) := by
  have ha := at_of m c t (fun _ => FloatOps.ofBits (F := Ideal) .f32 0x00000000#32) (k0_pay3 (F := Ideal))
    (fun y j h5 h8 => by rw [if_neg (by omega)]; exact zero_bits)
    (fun g n j => by
      rw [show 4 * (t.val % 64) = 0 by omega]
      unfold k0_pay3
      pointwise
      rfl)
  rw [outsAt0_A m c t h0]
  rw [B0_eq, B1_eq, B2_eq, B3_eq, B4_eq, B5_eq, B6_eq, B7_eq, B8_eq, B9_eq, B10_eq, B11_eq, B12_eq, B13_eq, B14_eq]
  refine ⟨fun r j => ?_, fun y j hy => ?_, fun g k j => ?_⟩
  · rw [← OUT_at ha r j]
    have e := congrFun (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (B1 m c t) (blkOf m c t (XB (fun _ => FloatOps.ofBits (F := Ideal) .f32 0x00000000#32) (B1 m c t)) (k0_pay3 (F := Ideal))) ((hcond0_0 t).mpr h0) rfl rfl) (ix2 r j)
    dsimp only [blkOf] at e ⊢
    exact e
  · rw [← last8_at m c t y j hy]
    have e := tail_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (B1 m c t) (blkOf m c t (XB (fun _ => FloatOps.ofBits (F := Ideal) .f32 0x00000000#32) (B1 m c t)) (k0_pay3 (F := Ideal))) ((hcond0_0 t).mpr h0) (ix2 y j) hy
    dsimp only [blkOf] at e ⊢
    exact e
  · rw [← POUT_at ha g k j]
    have e := congrFun (pv_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (B1 m c t) (blkOf m c t (XB (fun _ => FloatOps.ofBits (F := Ideal) .f32 0x00000000#32) (B1 m c t)) (k0_pay3 (F := Ideal))) ((hcond0_0 t).mpr h0) rfl rfl) (ix3 g k j)
    dsimp only [blkOf] at e ⊢
    exact e

set_option maxHeartbeats 1000000 in
/-- A later point leaves what the specification says, if the point before did. -/
theorem left_B (t : Fin cfg0.N) (h0 : ¬t.val % 64 = 0) (hb : t.val - 1 < cfg0.N) (prev : Left (args m c) (t.val - 1) (outsAt0 m c (t.val - 1) hb)) :
    Left (args m c) t.val (outsAt0 m c t.val t.isLt) := by
  have ha := at_of m c t (outsAt0 m c (t.val - 1) hb).2.1 (outsAt0 m c (t.val - 1) hb).2.2
    (fun y j h5 h8 => by
      rw [if_pos (by omega), prev.tail y j h8]
      exact congrArg₂ _ (by omega) rfl)
    (fun g n j => by
      rw [prev.st g n j, show (t.val - 1) / 64 = t.val / 64 by omega, show 4 * ((t.val - 1) % 64) + 4 = 4 * (t.val % 64) by omega])
  rw [outsAt0_B m c t h0]
  rw [B0_eq, B1_eq, B2_eq, B3_eq, B4_eq, B5_eq, B6_eq, B7_eq, B8_eq, B9_eq, B10_eq, B11_eq, B12_eq, B13_eq, B14_eq]
  refine ⟨fun r j => ?_, fun y j hy => ?_, fun g k j => ?_⟩
  · rw [← OUT_at ha r j]
    have e := congrFun (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (B1 m c t) (blkOf m c t (XB (outsAt0 m c (t.val - 1) hb).2.1 (B1 m c t)) (outsAt0 m c (t.val - 1) hb).2.2) (fun h => h0 ((hcond0_0 t).mp h)) (outsAt0 m c (t.val - 1) hb).2.1 rfl) (ix2 r j)
    dsimp only [blkOf] at e ⊢
    exact e
  · rw [← last8_at m c t y j hy]
    have e := tail_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (B1 m c t) (blkOf m c t (XB (outsAt0 m c (t.val - 1) hb).2.1 (B1 m c t)) (outsAt0 m c (t.val - 1) hb).2.2) (fun h => h0 ((hcond0_0 t).mp h)) (outsAt0 m c (t.val - 1) hb).2.1 (ix2 y j) hy
    dsimp only [blkOf] at e ⊢
    exact e
  · rw [← POUT_at ha g k j]
    have e := congrFun (pv_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (B1 m c t) (blkOf m c t (XB (outsAt0 m c (t.val - 1) hb).2.1 (B1 m c t)) (outsAt0 m c (t.val - 1) hb).2.2) (fun h => h0 ((hcond0_0 t).mp h)) (outsAt0 m c (t.val - 1) hb).2.1 rfl) (ix3 g k j)
    dsimp only [blkOf] at e ⊢
    exact e

/-- What every block leaves: the result's rows, the last rows, the state. -/
theorem left (n : ℕ) (hn : n < cfg0.N) : Left (args m c) n (outsAt0 m c n hn) := by
  induction n with
  | zero => exact left_A m c ⟨0, hn⟩ (Nat.zero_mod _)
  | succ k ih =>
    by_cases h0 : (k + 1) % 64 = 0
    · exact left_A m c ⟨k + 1, hn⟩ h0
    · exact left_B m c ⟨k + 1, hn⟩ h0 (Nat.lt_of_succ_lt hn) (ih _)

/-- The result array ends holding the recurrence's rows. -/
theorem final : (dats m 0 c).arrAt 15 cfg0.N = fun y : S32768x1024.Idx => SsdSpec.OUT (args m c) (y 0).val (y 1).val := by
  refine (dats m 0 c).arrAt_eq_of_covers 15 _ (by decide +kernel) fun t hf y => ?_
  obtain ⟨e0, e1, e2, e3, e15⟩ := idxs t
  blk_simp
  rw [after0_15]
  change @Eq EReal _ _
  idx_vars y
  refine Eq.trans ((left m c t.val t.isLt).rows _ _) (congrArg₂ _ ?_ ?_)
  · rw [e15]
    simp
    omega
  · rw [e15]
    simp

end Cert.KernelIdeal.Ssd
-- ==== Proof.RefRun.lean ====
/-
  The reference's run as 256 steps of the chunk recurrence on the carried arrays.
-/
module

public import proofs.«01_k».proof.Proof.Gen.ReferenceIdeal.Run
public import proofs.«01_k».proof.Proof.Gen.ReferenceIdeal.Step

@[expose] public section

noncomputable section

namespace Cert.ReferenceIdeal.Ssd

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The carried arrays as a valuation holds them. -/
def carried (V : Valuation τ sig (Elt F)) : State F where
  main_v101_6 := V (Proc.devRef .tc main_v101_6)
  main_v101_7 := V (Proc.devRef .tc main_v101_7)
  main_v101_0 := V (Proc.devRef .tc main_v101_0)
  main_v101_1 := V (Proc.devRef .tc main_v101_1)
  main_v101_2 := V (Proc.devRef .tc main_v101_2)
  main_v101_3 := V (Proc.devRef .tc main_v101_3)
  main_v101_4 := V (Proc.devRef .tc main_v101_4)

/-- The valuation's counter is `j`. -/
def At (V : Valuation τ sig (Elt F)) (j : ℕ) : Prop := V (Proc.devRef .tc main_v101_5) = constantI S_ 32 (BitVec.ofNat 32 j)

variable {V : Valuation τ sig (Elt F)} {j : ℕ}

set_option maxRecDepth 8192 in
/-- The state after a trip at counter `j`. -/
theorem trip_state (h : At V j) : step_main_v101_6 V = Step.b39 j (carried V) := by
  simp only [Step.b39, Step.b38, Step.b37, Step.b36, Step.b11, Step.b10, Step.b9, Step.b8, Step.b7, Step.b6, Step.b5, Step.b4, Step.b3, Step.b2, Step.b1, Step.b0, ← show V (Proc.devRef .tc main_v101_5) = constantI S_ 32 (BitVec.ofNat 32 j) from h]
  rfl

set_option maxRecDepth 8192 in
/-- The rows after a trip at counter `j`. -/
theorem trip_rows (h : At V j) : step_main_v101_7 V = Step.b47 j (carried V) := by
  simp only [Step.b47, Step.b46, Step.b45, Step.b44, Step.b43, Step.b42, Step.b41, Step.b40, Step.b35, Step.b34, Step.b33, Step.b32, Step.b31, Step.b30, Step.b29, Step.b28, Step.b27, Step.b26, Step.b25, Step.b24, Step.b23, Step.b22, Step.b21, Step.b20, Step.b19, Step.b18, Step.b17, Step.b16, Step.b15, Step.b14, Step.b13, Step.b12, ← show V (Proc.devRef .tc main_v101_5) = constantI S_ 32 (BitVec.ofNat 32 j) from h]
  rfl

/-- A trip turns the carried arrays into their step. -/
theorem carried_trip (h : At V j) : carried (STEP V) = step j (carried V) := by
  unfold carried
  rw [STEP_main_v101_6, STEP_main_v101_7, STEP_main_v101_0, STEP_main_v101_1, STEP_main_v101_2, STEP_main_v101_3, STEP_main_v101_4, trip_state h, trip_rows h]
  rfl

/-- A trip counts one on. -/
theorem at_trip (h : At V j) : At (STEP V) (j + 1) := by
  unfold At at h ⊢
  rw [STEP_main_v101_5]
  unfold step_main_v101_5
  rw [h, BitVec.ofNat_add]
  rfl

/-- After `n` trips from counter 0 the counter is `n` and the carried arrays are `n` steps on. -/
theorem trips (it : ℕ → State F) (hs : ∀ n, it (n + 1) = step n (it n)) (h : At V 0) (h0 : carried V = it 0) (n : ℕ) :
    At (STEP^[n] V) n ∧ carried (STEP^[n] V) = it n := by
  induction n with
  | zero => exact ⟨h, h0⟩
  | succ n ih =>
    rw [Function.iterate_succ_apply', hs, ← ih.2]
    exact ⟨at_trip ih.1, carried_trip ih.1⟩

variable (m : (ℓ : Loc nD τ sig) → Buf (Elt F) ℓ) (c : Dev nD)

/-- The carried arrays the arguments give before the first trip. -/
abbrev start : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The operations before the loop leave the counter at 0. -/
theorem at_entry : At (entryContents preI m c) 0 := ctr_entry m c

set_option maxRecDepth 65536 in
set_option maxHeartbeats 1000000 in
/-- The operations before the loop leave those arrays, one by one. -/
theorem arrays_entry : let V := entryContents preI m c
    V (Proc.devRef .tc main_v101_6) = (start m c).main_v101_6 ∧ V (Proc.devRef .tc main_v101_7) = (start m c).main_v101_7
      ∧ V (Proc.devRef .tc main_v101_0) = (start m c).main_v101_0 ∧ V (Proc.devRef .tc main_v101_1) = (start m c).main_v101_1
      ∧ V (Proc.devRef .tc main_v101_2) = (start m c).main_v101_2 ∧ V (Proc.devRef .tc main_v101_3) = (start m c).main_v101_3
      ∧ V (Proc.devRef .tc main_v101_4) = (start m c).main_v101_4 := by
  refine ⟨?_, ?_, ?_, ?_, ?_, ?_, ?_⟩ <;> (simp only [entryContents, afterL_cons, afterL_nil]; after_reads_simp) <;> rfl

/-- The operations before the loop leave those arrays. -/
theorem carried_entry : carried (entryContents preI m c) = start m c := by
  obtain ⟨h6, h7, h0, h1, h2, h3, h4⟩ := arrays_entry m c
  unfold carried
  rw [h6, h7, h0, h1, h2, h3, h4]

set_option maxRecDepth 8192 in
/-- The operations after the loop read the rows, and the two arguments as they were. -/
theorem last (n : ℕ) : out_main_v123 (STEP^[n] (entryContents preI m c))
    = Step.R_main_v123 (carried (STEP^[n] (entryContents preI m c))) (m ((c.tc : Thread nD τ).loc main_arg0)) (m ((c.tc : Thread nD τ).loc main_arg7)) := by
  rw [← iter_main_arg0 m c n, ← iter_main_arg7 m c n]
  rfl

/-- The reference's result is read off the carried arrays after the last of the trips. -/
theorem result (it : ℕ → State F) (h0 : it 0 = start m c) (hs : ∀ n, it (n + 1) = step n (it n)) :
    out_main_v123 (STEP^[256] (entryContents preI m c)) = Step.R_main_v123 (it 256) (m ((c.tc : Thread nD τ).loc main_arg0)) (m ((c.tc : Thread nD τ).loc main_arg7)) := by
  rw [last, (trips it hs (at_entry m c) ((carried_entry m c).trans h0.symm) 256).2]

end Cert.ReferenceIdeal.Ssd

end
-- ==== Proof.RefA.lean ====
/-
  The reference's convolution, steps and log decays, entry by entry.
-/
module

public import proofs.«01_k».proof.Proof.Gen.ReferenceIdeal.Step
public import proofs.«01_k».proof.Proof.SsdArgs
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

namespace Cert.ReferenceIdeal.Ssd

open Cert.ReferenceIdeal Cert.ReferenceIdeal.Step Cert.SsdSpec

section Before
variable (a0 : FVec Ideal S32768x4608 .f32) (a1 : FVec Ideal S32768x128 .f32) (a2 : FVec Ideal S4x1536 .f32) (a3 : FVec Ideal S1536 .f32)
  (a4 a5 a6 : FVec Ideal S16 .f32) (a7 : FVec Ideal S1024 .f32)

/-- The sum of taps starts at zero. -/
theorem K11_at (i : S2x16384x1536.Idx) : K_main_v11 (F := Ideal) i = 0 := by
  unfold K_main_v11 K_main_cst
  pointwise
/-- The padding is zero. -/
theorem K0_at (i : S_.Idx) : K_main_call0_v0 (F := Ideal) i = 0 := by
  unfold K_main_call0_v0 K_main_c
  show (((0#32 : BitVec 32).toInt : ℝ) : EReal) = 0
  simp
/-- The one the logistic adds. -/
theorem K1_at (i : S2x16384x1536.Idx) : K_main_call1_v2 (F := Ideal) i = 1 := by
  unfold K_main_call1_v2 K_main_call1_cst
  pointwise
/-- The one the logistic divides. -/
theorem K1'_at (i : S2x16384x1536.Idx) : K_main_call1_v4 (F := Ideal) i = 1 := by
  unfold K_main_call1_v4 K_main_call1_cst_0
  pointwise
/-- The zero softplus compares with. -/
theorem K20_at (i : S2x16384x16.Idx) : K_main_call2_v0 (F := Ideal) i = 0 := by
  unfold K_main_call2_v0 K_main_call2_cst
  pointwise
/-- The zero softplus subtracts. -/
theorem K22_at (i : S2x16384x16.Idx) : K_main_call2_v2 (F := Ideal) i = 0 := by
  unfold K_main_call2_v2 K_main_call2_cst
  pointwise
/-- The zero softplus adds. -/
theorem K25_at (i : S2x16384x16.Idx) : K_main_call2_v5 (F := Ideal) i = 0 := by
  unfold K_main_call2_v5 K_main_call2_cst
  pointwise
/-- The running sum starts at zero. -/
theorem K3_at (i : S_.Idx) : K_main_call3_call0_v0 (F := Ideal) i = 0 := by
  unfold K_main_call3_call0_v0 K_main_call3_call0_cst
  pointwise

/-- A padded row is the row a tap meets. -/
theorem pad_at (b : Fin 2) (s : Fin 16384) (k : ℕ) (hk : k < 4) (j : Fin 1536) :
    A_main_v4 (F := Ideal) a0 a1 a2 a3 a4 a5 a6 (ix3 b (⟨k + s.val, by have := s.isLt; omega⟩ : Fin 16387) j)
      = xk (argsOf a0 a1 a2 a3 a4 a5 a6 a7) (16384 * b.val + s.val) k j.val := by
  have hb := b.isLt
  have hs := s.isLt
  have hj := j.isLt
  unfold A_main_v4 A_main_v1 A_main_v0 xk argsOf
  pointwise
  by_cases h : 3 ≤ k + s.val
  · rw [dif_pos (by omega), if_pos (by omega)]
    exact (tot2_at a0 _ _ (by omega) (by omega)).trans (by congr 1; omega)
  · rw [dif_neg (by omega), if_neg (by omega), K0_at]

/-- The convolution. -/
theorem conv_at (b : Fin 2) (s : Fin 16384) (j : Fin 1536) : A_main_v36 (F := Ideal) a0 a1 a2 a3 a4 a5 a6 (ix3 b s j)
    = cv (argsOf a0 a1 a2 a3 a4 a5 a6 a7) (16384 * b.val + s.val) j.val := by
  unfold A_main_v36 A_main_v33 A_main_v26 A_main_v19 A_main_v12 A_main_v10 A_main_v18 A_main_v25 A_main_v32
    A_main_v35 A_main_v34 A_main_v31 A_main_v30 A_main_v29 A_main_v28 A_main_v27 A_main_v24 A_main_v23 A_main_v22 A_main_v21 A_main_v20 A_main_v17 A_main_v16 A_main_v15 A_main_v14 A_main_v13
    A_main_v9 A_main_v8 A_main_v7 A_main_v6 A_main_v5
  pointwise
  have p0 := pad_at a0 a1 a2 a3 a4 a5 a6 a7 b s 0 (by omega) j
  have p1 := pad_at a0 a1 a2 a3 a4 a5 a6 a7 b s 1 (by omega) j
  have p2 := pad_at a0 a1 a2 a3 a4 a5 a6 a7 b s 2 (by omega) j
  have p3 := pad_at a0 a1 a2 a3 a4 a5 a6 a7 b s 3 (by omega) j
  simp only [Nat.zero_add] at p0
  rw [K11_at, p0, p1, p2, p3, zero_add]
  have w0 := tot2_at a2 0 j.val (by omega) j.isLt
  have w1 := tot2_at a2 1 j.val (by omega) j.isLt
  have w2 := tot2_at a2 2 j.val (by omega) j.isLt
  have w3 := tot2_at a2 3 j.val (by omega) j.isLt
  have w4 := tot1_at a3 j.val j.isLt
  unfold cv
  show _ = tot1 a3 j.val + _ * tot2 a2 0 j.val + _ * tot2 a2 1 j.val + _ * tot2 a2 2 j.val + _ * tot2 a2 3 j.val
  rw [← w0, ← w1, ← w2, ← w3, ← w4]
  rw [add_comm, ← add_assoc, ← add_assoc, ← add_assoc]
  rfl

/-- Its silu. -/
theorem x_at (b : Fin 2) (s : Fin 16384) (j : Fin 1536) : A_main_v37 (F := Ideal) a0 a1 a2 a3 a4 a5 a6 (ix3 b s j)
    = X (argsOf a0 a1 a2 a3 a4 a5 a6 a7) (16384 * b.val + s.val) j.val := by
  unfold A_main_v37 A_main_call1_v5 A_main_call1_v3 A_main_call1_v1 A_main_call1_v0
  pointwise
  rw [K1_at, K1'_at, conv_at a0 a1 a2 a3 a4 a5 a6 a7, ← zero_sub]
  rfl

/-- The steps: softplus of the raw step and the bias. -/
theorem dt_at (b : Fin 2) (s : Fin 16384) (h : Fin 16) : A_main_v47 (F := Ideal) a0 a1 a2 a3 a4 a5 a6 (ix3 b s h)
    = DT (argsOf a0 a1 a2 a3 a4 a5 a6 a7) (16384 * b.val + s.val) h.val := by
  have hb := b.isLt
  have hs := s.isLt
  have hh := h.isLt
  unfold A_main_v47 A_main_call2_v11 A_main_call2_v10 A_main_call2_v9 A_main_call2_v8 A_main_call2_v7 A_main_call2_v6 A_main_call2_v4 A_main_call2_v3 A_main_call2_v1 A_main_v46 A_main_v45 A_main_v44 A_main_v3 A_main_v2
  pointwise
  rw [K20_at, K22_at]
  have w1 := tot2_at a1 (16384 * b.val + s.val) h.val (by omega) (by omega)
  have w2 := tot1_at a4 h.val hh
  unfold DT sp
  show _ = max (tot2 a1 _ _ + tot1 a4 _) 0 + Ideal.log (1 + Ideal.exp (0 - FloatOps.absf (F := Ideal) (φ := .f32) (tot2 a1 _ _ + tot1 a4 _)))
  rw [← w1, ← w2]
  rw [if_neg (by simp)]
  simp only [zero_sub, sub_zero, Nat.mul_comm 16384 b.val]
  rfl

/-- The log decays. -/
theorem da_at (b : Fin 2) (q : Fin 256) (s : Fin 64) (g : Fin 2) (hh : Fin 8) : A_main_v54 (F := Ideal) a0 a1 a2 a3 a4 a5 a6 (ix5 b q s g hh)
    = DA (argsOf a0 a1 a2 a3 a4 a5 a6 a7) (64 * (256 * b.val + q.val) + s.val) (8 * g.val + hh.val) := by
  have hb := b.isLt
  have hq := q.isLt
  have hs := s.isLt
  have hg := g.isLt
  have h8 := hh.isLt
  unfold A_main_v54 A_main_v53 A_main_v52 A_main_v51 A_main_v50 A_main_v49 A_main_v48
  pointwise
  rw [dt_at a0 a1 a2 a3 a4 a5 a6 a7]
  unfold DA
  rw [zero_sub]
  have w := tot1_at a5 (8 * g.val + hh.val) (by omega)
  show _ = DT _ _ _ * -Ideal.exp (tot1 a5 _)
  rw [← w]
  have e1 : 16384 * b.val + (q.val * 64 + s.val) = 64 * (256 * b.val + q.val) + s.val := by omega
  have e2 : g.val * 8 + hh.val = 8 * g.val + hh.val := by omega
  simp only [e1, e2]

end Before
end Cert.ReferenceIdeal.Ssd
-- ==== Proof.RefCum.lean ====
/-
  A running sum along the middle axis, written as a window of 64 rows padded by 63 before the first.
-/
module

public import Idealize.ShloMosaic.Lib.Pointwise

@[expose] public section

noncomputable section

open Idealize.ShloMosaic

namespace Cert.SsdSpec

/-- A fold that adds is the sum. -/
theorem foldl_add {β : Type} (l : List β) (f : β → EReal) (v : EReal) : l.foldl (fun r n => r + f n) v = v + (l.map f).sum := by
  induction l generalizing v with
  | nil => simp
  | cons a l ih => rw [List.foldl_cons, ih, List.map_cons, List.sum_cons, add_assoc]

/-- The rows of the window at `s` that are rows of the array are the rows up to `s`. -/
theorem sum_window (s : ℕ) (hs : s < 64) (F : ℕ → EReal) :
    ∑ k : Fin 64, (if 63 ≤ s + k.val then F (s + k.val - 63) else 0) = ∑ k ∈ Finset.range (s + 1), F k := by
  rw [Fin.sum_univ_eq_sum_range (fun k => if 63 ≤ s + k then F (s + k - 63) else 0) 64]
  have e : (64 : ℕ) = (63 - s) + (s + 1) := by omega
  rw [e, Finset.sum_range_add]
  rw [Finset.sum_eq_zero (s := Finset.range (63 - s)) (fun k hk => if_neg (by have := Finset.mem_range.mp hk; omega)), zero_add]
  refine Finset.sum_congr rfl fun k hk => ?_
  rw [if_pos (by omega)]
  congr 1
  omega

/-- The shape of the window. -/
abbrev WS : Shape := ⟨5, ![1, 1, 64, 1, 1]⟩

/-- An index of the window is its row. -/
def wEquiv : Fin 64 ≃ WS.Idx where
  toFun k := ix5 0 0 k 0 0
  invFun i := i 2
  left_inv k := rfl
  right_inv i := by
    funext a
    fin_cases a
    · exact Subsingleton.elim (α := Fin 1) _ _
    · exact Subsingleton.elim (α := Fin 1) _ _
    · rfl
    · exact Subsingleton.elim (α := Fin 1) _ _
    · exact Subsingleton.elim (α := Fin 1) _ _

/-- The windowed sum, over the window's indices. -/
theorem reduceWindowAdd_sum {s t u : Shape} (window strides lo hi : Fin s.rank → ℕ) (x : s.Idx → EReal) (init : u.Idx → EReal)
    (h : s.ReduceWindows window strides lo hi t) (hu : 0 < u.numel) (h0 : ∀ i, init i = 0) (j : t.Idx) :
    Host.reduceWindowAdd (F := Ideal) (φ := .f32) window strides lo hi x init h hu j
      = ∑ w : (⟨s.rank, window⟩ : Shape).Idx,
        (if hin : ∀ a, lo a ≤ (j (a.cast h.1.symm)).val * strides a + (w a).val ∧ (j (a.cast h.1.symm)).val * strides a + (w a).val - lo a < s.size a then
          x (fun a => ⟨(j (a.cast h.1.symm)).val * strides a + (w a).val - lo a, (hin a).2⟩) else 0) := by
  refine Eq.trans (foldl_add _ _ _) ?_
  rw [h0, zero_add, ← Fin.sum_univ_def]
  rw [← Equiv.sum_comp (⟨s.rank, window⟩ : Shape).rowMajor.symm]
  refine Finset.sum_congr rfl fun n _ => ?_
  dsimp only
  split_ifs <;> rfl

/-- The windowed sum at row `s` is the sum of the rows up to `s`. -/
theorem runsum_at {n0 n1 n3 n4 : ℕ} {u : Shape} (x : (⟨5, ![n0, n1, 64, n3, n4]⟩ : Shape).Idx → EReal) (init : u.Idx → EReal)
    (h : (⟨5, ![n0, n1, 64, n3, n4]⟩ : Shape).ReduceWindows ![1, 1, 64, 1, 1] ![1, 1, 1, 1, 1] ![0, 0, 63, 0, 0] ![0, 0, 0, 0, 0] ⟨5, ![n0, n1, 64, n3, n4]⟩)
    (hu : 0 < u.numel) (h0 : ∀ i, init i = 0) (a : Fin n0) (b : Fin n1) (s : Fin 64) (c : Fin n3) (d : Fin n4) (F : ℕ → EReal)
    (hF : ∀ k : Fin 64, x (ix5 a b k c d) = F k.val) :
    Host.reduceWindowAdd (F := Ideal) (φ := .f32) ![1, 1, 64, 1, 1] ![1, 1, 1, 1, 1] ![0, 0, 63, 0, 0] ![0, 0, 0, 0, 0] x init h hu (ix5 a b s c d)
      = ∑ k ∈ Finset.range (s.val + 1), F k := by
  rw [← sum_window s.val s.isLt F]
  have hs := s.isLt
  rw [reduceWindowAdd_sum _ _ _ _ _ _ _ _ h0]
  refine Eq.trans (Equiv.sum_comp wEquiv _).symm ?_
  refine Finset.sum_congr rfl fun k _ => ?_
  have hk := k.isLt
  have ha := a.isLt
  have hb := b.isLt
  have hc := c.isLt
  have hd := d.isLt
  by_cases hw : 63 ≤ s.val + k.val
  · rw [if_pos hw, dif_pos (by
      intro i
      fin_cases i
      · show 0 ≤ a.val * 1 + 0 ∧ a.val * 1 + 0 - 0 < n0; omega
      · show 0 ≤ b.val * 1 + 0 ∧ b.val * 1 + 0 - 0 < n1; omega
      · show 63 ≤ s.val * 1 + k.val ∧ s.val * 1 + k.val - 63 < 64; omega
      · show 0 ≤ c.val * 1 + 0 ∧ c.val * 1 + 0 - 0 < n3; omega
      · show 0 ≤ d.val * 1 + 0 ∧ d.val * 1 + 0 - 0 < n4; omega)]
    rw [← hF ⟨s.val + k.val - 63, by omega⟩]
    refine congrArg x (funext fun i => Fin.ext ?_)
    fin_cases i
    · show a.val * 1 + 0 - 0 = a.val; omega
    · show b.val * 1 + 0 - 0 = b.val; omega
    · show s.val * 1 + k.val - 63 = s.val + k.val - 63; omega
    · show c.val * 1 + 0 - 0 = c.val; omega
    · show d.val * 1 + 0 - 0 = d.val; omega
  · rw [if_neg hw, dif_neg (fun hin => hw (by
      have := (hin 2).1
      change 63 ≤ s.val * 1 + k.val at this
      omega))]

end Cert.SsdSpec

end
-- ==== Proof.RefB.lean ====
/-
  The reference's chunk arrays, entry by entry.
-/
module

public import proofs.«01_k».proof.Proof.Gen.ReferenceIdeal.Step
public import proofs.«01_k».proof.Proof.SsdArgs
public import proofs.«01_k».proof.Proof.RefA
public import proofs.«01_k».proof.Proof.RefCum
public import Idealize.ShloMosaic.Lib.Pointwise
public import Idealize.ShloMosaic.Lib.Pipeline.Value
public import Idealize.ShloMosaic.Lib.DynamicIndex

@[expose] public section

set_option maxRecDepth 16384

noncomputable section

open Idealize.ShloMosaic Idealize.ShloMosaic.TcCoe Idealize.SL.Sem

namespace Cert.ReferenceIdeal.Ssd

open Cert.ReferenceIdeal Cert.ReferenceIdeal.Step Cert.SsdSpec

section Before
variable (a0 : FVec Ideal S32768x4608 .f32) (a1 : FVec Ideal S32768x128 .f32) (a2 : FVec Ideal S4x1536 .f32) (a3 : FVec Ideal S1536 .f32)
  (a4 a5 a6 : FVec Ideal S16 .f32) (a7 : FVec Ideal S1024 .f32)

/-- A product, entry by entry. -/
theorem mul_at {s : Shape} (x y : FVec Ideal s .f32) (i : s.Idx) : mulf x y i = x i * y i := rfl
/-- A sum, entry by entry. -/
theorem add_at {s : Shape} (x y : FVec Ideal s .f32) (i : s.Idx) : addf x y i = x i + y i := rfl
/-- A difference, entry by entry. -/
theorem sub_at {s : Shape} (x y : FVec Ideal s .f32) (i : s.Idx) : subf x y i = x i - y i := rfl
/-- An exponential, entry by entry. -/
theorem exp_at {s : Shape} (x : FVec Ideal s .f32) (i : s.Idx) : Host.exp x i = Ideal.exp (x i) := rfl
/-- A choice, entry by entry. -/
theorem select_at {s : Shape} (c : IVec s 1) (x y : FVec Ideal s .f32) (i : s.Idx) : select c x y i = Scalar.select (c i) (x i) (y i) := rfl

/-- The running log decays of a chunk. -/
theorem ac_at (b : Fin 2) (q : Fin 256) (s : Fin 64) (g : Fin 2) (hh : Fin 8) : A_main_v55 (F := Ideal) a0 a1 a2 a3 a4 a5 a6 (ix5 b q s g hh)
    = AC (argsOf a0 a1 a2 a3 a4 a5 a6 a7) (256 * b.val + q.val) s.val (8 * g.val + hh.val) := by
  unfold A_main_v55
  exact runsum_at _ _ _ _ (fun i => K3_at i) b q s g hh (fun k => DA (argsOf a0 a1 a2 a3 a4 a5 a6 a7) (64 * (256 * b.val + q.val) + k) (8 * g.val + hh.val))
    (fun k => da_at a0 a1 a2 a3 a4 a5 a6 a7 b q k g hh)

/-- The values, by chunk, group, head and place. -/
theorem v39_at (b : Fin 2) (q : Fin 256) (s : Fin 64) (g : Fin 2) (hh : Fin 8) (p : Fin 64) : A_main_v39 (F := Ideal) a0 a1 a2 a3 a4 a5 a6 (ix6 b q s g hh p)
    = X (argsOf a0 a1 a2 a3 a4 a5 a6 a7) (64 * (256 * b.val + q.val) + s.val) (512 * g.val + 64 * hh.val + p.val) := by
  unfold A_main_v39 A_main_v38
  pointwise
  rw [x_at a0 a1 a2 a3 a4 a5 a6 a7]
  congr 1 <;> dsimp only <;> omega

/-- The rows a state is made of. -/
theorem bb_at (b : Fin 2) (q : Fin 256) (s : Fin 64) (g : Fin 2) (n : Fin 128) : A_main_v41 (F := Ideal) a0 a1 a2 a3 a4 a5 a6 (ix5 b q s g n)
    = BB (argsOf a0 a1 a2 a3 a4 a5 a6 a7) (64 * (256 * b.val + q.val) + s.val) g.val n.val := by
  unfold A_main_v41 A_main_v40
  pointwise
  rw [x_at a0 a1 a2 a3 a4 a5 a6 a7]
  unfold BB
  congr 1 <;> dsimp only <;> omega

/-- The rows a state is read by. -/
theorem cc_at (b : Fin 2) (q : Fin 256) (s : Fin 64) (g : Fin 2) (n : Fin 128) : A_main_v43 (F := Ideal) a0 a1 a2 a3 a4 a5 a6 (ix5 b q s g n)
    = CC (argsOf a0 a1 a2 a3 a4 a5 a6 a7) (64 * (256 * b.val + q.val) + s.val) g.val n.val := by
  unfold A_main_v43 A_main_v42
  pointwise
  rw [x_at a0 a1 a2 a3 a4 a5 a6 a7]
  unfold CC
  congr 1 <;> dsimp only <;> omega

/-- The steps by chunk, group and head. -/
theorem v48_at (b : Fin 2) (q : Fin 256) (s : Fin 64) (g : Fin 2) (hh : Fin 8) : A_main_v48 (F := Ideal) a0 a1 a2 a3 a4 a5 a6 (ix5 b q s g hh)
    = DT (argsOf a0 a1 a2 a3 a4 a5 a6 a7) (64 * (256 * b.val + q.val) + s.val) (8 * g.val + hh.val) := by
  unfold A_main_v48
  pointwise
  rw [dt_at a0 a1 a2 a3 a4 a5 a6 a7]
  congr 1 <;> dsimp only <;> omega

/-- A step, repeated over a head's places. -/
theorem v57_at (b : Fin 2) (q : Fin 256) (s : Fin 64) (g : Fin 2) (hh : Fin 8) (p : Fin 64) : A_main_v57 (F := Ideal) a0 a1 a2 a3 a4 a5 a6 (ix6 b q s g hh p)
    = A_main_v48 (F := Ideal) a0 a1 a2 a3 a4 a5 a6 (ix5 b q s g hh) := by
  unfold A_main_v57 A_main_v56
  generalize A_main_v48 (F := Ideal) a0 a1 a2 a3 a4 a5 a6 = x
  rw [broadcastInDim_apply _ _ _ _ (ix6 b q s g hh 0) (by intro a; fin_cases a <;> rfl)]
  rw [broadcastInDim_apply _ _ _ _ (ix5 b q s g hh) (by intro a; fin_cases a <;> rfl)]

/-- The values times their steps. -/
theorem v58_at (b : Fin 2) (q : Fin 256) (s : Fin 64) (g : Fin 2) (hh : Fin 8) (p : Fin 64) : A_main_v58 (F := Ideal) a0 a1 a2 a3 a4 a5 a6 (ix6 b q s g hh p)
    = XD (argsOf a0 a1 a2 a3 a4 a5 a6 a7) (64 * (256 * b.val + q.val) + s.val) (512 * g.val + 64 * hh.val + p.val) := by
  have e := v39_at a0 a1 a2 a3 a4 a5 a6 a7 b q s g hh p
  have e2 := v48_at a0 a1 a2 a3 a4 a5 a6 a7 b q s g hh
  unfold A_main_v58
  rw [mul_at, v57_at, e, e2]
  unfold XD
  have := p.isLt
  have e3 : (512 * g.val + 64 * hh.val + p.val) / 64 = 8 * g.val + hh.val := by omega
  rw [e3]

/-- The mask lets row `s` see the rows up to its own. -/
theorem mask_at (b : Fin 2) (q : Fin 256) (s k : Fin 64) (g : Fin 2) (hh : Fin 8) : K_main_call5_v1 (F := Ideal) (ix6 b q s k g hh)
    = if k.val ≤ s.val then 1 else 0 := by
  unfold K_main_call5_v1 K_main_v66
  rw [broadcastInDim_apply _ _ _ _ (ix4 s k 0 0) (by intro a; fin_cases a <;> rfl)]
  rw [broadcastInDim_apply _ _ _ _ (ix2 s k) (by intro a; fin_cases a <;> rfl)]
  unfold K_main_v60 K_main_call4_v5 K_main_call4_c_0 K_main_call4_v4 K_main_call4_v3 K_main_call4_v2 K_main_call4_v1 K_main_call4_c K_main_call4_v0 K_main_v59 K_main_c_0
  pointwise
  have hs := s.isLt
  have hk := k.isLt
  rw [show IntOp.addi (BitVec.ofNat 32 s.val) 0#32 = BitVec.ofNat 32 s.val from BitVec.add_zero _]
  show (if BitVec.ofBool ((BitVec.ofNat 32 k.val).sle (BitVec.ofNat 32 s.val)) = 1 then (1#1 : BitVec 1) else 0#1) = _
  rw [BitVec.sle, toInt_ofNat_of_lt (by omega), toInt_ofNat_of_lt (by omega)]
  by_cases h : k.val ≤ s.val
  · rw [if_pos h, decide_eq_true (by omega)]; rfl
  · rw [if_neg h, decide_eq_false (by omega)]; rfl

/-- What the mask puts elsewhere. -/
theorem low_at (i : S2x256x64x64x2x8.Idx) : K_main_call5_v2 (F := Ideal) i = Ideal.ofBits .f32 0xFF800000#32 := by
  unfold K_main_call5_v2 K_main_call5_v0 K_main_cst_1
  rfl

/-- The running decay of the reading row, repeated over the rows read. -/
theorem v63_at (b : Fin 2) (q : Fin 256) (s k : Fin 64) (g : Fin 2) (hh : Fin 8) : A_main_v63 (F := Ideal) a0 a1 a2 a3 a4 a5 a6 (ix6 b q s k g hh)
    = A_main_v55 (F := Ideal) a0 a1 a2 a3 a4 a5 a6 (ix5 b q s g hh) := by
  unfold A_main_v63 A_main_v61
  generalize A_main_v55 (F := Ideal) a0 a1 a2 a3 a4 a5 a6 = x
  rw [broadcastInDim_apply _ _ _ _ (ix6 b q s 0 g hh) (by intro a; fin_cases a <;> rfl)]
  rw [broadcastInDim_apply _ _ _ _ (ix5 b q s g hh) (by intro a; fin_cases a <;> rfl)]

/-- The running decay of the row read, repeated over the reading rows. -/
theorem v64_at (b : Fin 2) (q : Fin 256) (s k : Fin 64) (g : Fin 2) (hh : Fin 8) : A_main_v64 (F := Ideal) a0 a1 a2 a3 a4 a5 a6 (ix6 b q s k g hh)
    = A_main_v55 (F := Ideal) a0 a1 a2 a3 a4 a5 a6 (ix5 b q k g hh) := by
  unfold A_main_v64 A_main_v62
  generalize A_main_v55 (F := Ideal) a0 a1 a2 a3 a4 a5 a6 = x
  rw [broadcastInDim_apply _ _ _ _ (ix6 b q 0 k g hh) (by intro a; fin_cases a <;> rfl)]
  rw [broadcastInDim_apply _ _ _ _ (ix5 b q k g hh) (by intro a; fin_cases a <;> rfl)]

/-- The row products, repeated over a group's heads. -/
theorem v72_at (b : Fin 2) (q : Fin 256) (s k : Fin 64) (g : Fin 2) (hh : Fin 8) : A_main_v72 (F := Ideal) a0 a1 a2 a3 a4 a5 a6 (ix6 b q s k g hh)
    = A_main_v69 (F := Ideal) a0 a1 a2 a3 a4 a5 a6 (ix5 b q g k s) := by
  unfold A_main_v72 A_main_v71 A_main_v70
  generalize A_main_v69 (F := Ideal) a0 a1 a2 a3 a4 a5 a6 = x
  rw [broadcastInDim_apply _ _ _ _ (ix6 b q s k g 0) (by intro a; fin_cases a <;> rfl)]
  rw [broadcastInDim_apply _ _ _ _ (ix5 b q s k g) (by intro a; fin_cases a <;> rfl)]
  pointwise

/-- The row products of a chunk. -/
theorem cb_at (b : Fin 2) (q : Fin 256) (g : Fin 2) (k s : Fin 64) : A_main_v69 (F := Ideal) a0 a1 a2 a3 a4 a5 a6 (ix5 b q g k s)
    = ∑ n : Fin 128, CC (argsOf a0 a1 a2 a3 a4 a5 a6 a7) (64 * (256 * b.val + q.val) + s.val) g.val n.val * BB (argsOf a0 a1 a2 a3 a4 a5 a6 a7) (64 * (256 * b.val + q.val) + k.val) g.val n.val := by
  unfold A_main_v69
  pointwise
  refine Finset.sum_congr rfl fun n _ => ?_
  rw [bb_at a0 a1 a2 a3 a4 a5 a6 a7, cc_at a0 a1 a2 a3 a4 a5 a6 a7, mul_comm]

/-- The row products with their decays. -/
theorem v73_at (b : Fin 2) (q : Fin 256) (s k : Fin 64) (g : Fin 2) (hh : Fin 8) : A_main_v73 (F := Ideal) a0 a1 a2 a3 a4 a5 a6 (ix6 b q s k g hh)
    = (∑ n : Fin 128, CC (argsOf a0 a1 a2 a3 a4 a5 a6 a7) (64 * (256 * b.val + q.val) + s.val) g.val n.val * BB (argsOf a0 a1 a2 a3 a4 a5 a6 a7) (64 * (256 * b.val + q.val) + k.val) g.val n.val)
      * DE (argsOf a0 a1 a2 a3 a4 a5 a6 a7) (256 * b.val + q.val) s.val k.val (8 * g.val + hh.val) := by
  unfold A_main_v73 A_main_v68 A_main_v67 A_main_v65
  rw [mul_at, exp_at, select_at, sub_at]
  rw [v72_at, v63_at, v64_at, low_at, mask_at, ac_at a0 a1 a2 a3 a4 a5 a6 a7, ac_at a0 a1 a2 a3 a4 a5 a6 a7, cb_at a0 a1 a2 a3 a4 a5 a6 a7]
  unfold DE
  congr 2
  by_cases h : k.val ≤ s.val
  · rw [if_pos h, if_pos h]; rfl
  · rw [if_neg h, if_neg h]; rfl

/-- The chunk's own part of a row. -/
theorem v75_at (b : Fin 2) (q : Fin 256) (s : Fin 64) (g : Fin 2) (hh : Fin 8) (p : Fin 64) : A_main_v75 (F := Ideal) a0 a1 a2 a3 a4 a5 a6 (ix6 b q s g hh p)
    = YD (argsOf a0 a1 a2 a3 a4 a5 a6 a7) (256 * b.val + q.val) s.val (512 * g.val + 64 * hh.val + p.val) := by
  unfold A_main_v75 A_main_v74
  pointwise
  have := p.isLt
  have := hh.isLt
  have e1 : (512 * g.val + 64 * hh.val + p.val) / 512 = g.val := by omega
  have e2 : (512 * g.val + 64 * hh.val + p.val) / 64 = 8 * g.val + hh.val := by omega
  unfold YD
  rw [e1, e2]
  refine Finset.sum_congr rfl fun k _ => ?_
  rw [v58_at a0 a1 a2 a3 a4 a5 a6 a7, v73_at a0 a1 a2 a3 a4 a5 a6 a7, mul_comm]

/-- The state a chunk makes. -/
theorem v83_at (b : Fin 2) (q : Fin 256) (g : Fin 2) (hh : Fin 8) (p : Fin 64) (n : Fin 128) : A_main_v83 (F := Ideal) a0 a1 a2 a3 a4 a5 a6 (ix6 b q g hh p n)
    = CS (argsOf a0 a1 a2 a3 a4 a5 a6 a7) (256 * b.val + q.val) n.val (512 * g.val + 64 * hh.val + p.val) := by
  unfold A_main_v83
  pointwise
  have := p.isLt
  have := hh.isLt
  have e1 : (512 * g.val + 64 * hh.val + p.val) / 512 = g.val := by omega
  have e2 : (512 * g.val + 64 * hh.val + p.val) / 64 = 8 * g.val + hh.val := by omega
  unfold CS
  rw [e1, e2]
  refine Finset.sum_congr rfl fun k _ => ?_
  unfold A_main_v82 A_main_v81 A_main_v80 A_main_v79 A_main_v78 A_main_v77 A_main_v76
  pointwise
  rw [v58_at a0 a1 a2 a3 a4 a5 a6 a7, bb_at a0 a1 a2 a3 a4 a5 a6 a7, ac_at a0 a1 a2 a3 a4 a5 a6 a7, ac_at a0 a1 a2 a3 a4 a5 a6 a7, mul_comm, mul_comm (Ideal.exp _)]
  rfl

/-- The skip weights, repeated. -/
theorem v90_at (b : Fin 2) (q : Fin 256) (s : Fin 64) (g : Fin 2) (hh : Fin 8) (p : Fin 64) : A_main_v90 (F := Ideal) a0 a1 a2 a3 a4 a5 a6 (ix6 b q s g hh p)
    = (argsOf a0 a1 a2 a3 a4 a5 a6 a7).Ds (8 * g.val + hh.val) := by
  unfold A_main_v90 A_main_v89 A_main_v88 A_main_v87
  have := g.isLt
  have := hh.isLt
  rw [broadcastInDim_apply _ _ _ _ (ix6 0 0 0 g hh 0) (by intro a; fin_cases a <;> rfl)]
  rw [broadcastInDim_apply _ _ _ _ (ix3 g hh 0) (by intro a; fin_cases a <;> rfl)]
  rw [broadcastInDim_apply _ _ _ _ (ix2 g hh) (by intro a; fin_cases a <;> rfl)]
  pointwise
  refine (tot1_at a6 _ (by omega)).trans ?_
  show tot1 a6 _ = tot1 a6 _
  congr 1
  omega

/-- The made states, chunk first. -/
theorem v95_at (q : Fin 256) (b : Fin 2) (g : Fin 2) (hh : Fin 8) (p : Fin 64) (n : Fin 128) : A_main_v95 (F := Ideal) a0 a1 a2 a3 a4 a5 a6 (ix6 q b g hh p n)
    = CS (argsOf a0 a1 a2 a3 a4 a5 a6 a7) (256 * b.val + q.val) n.val (512 * g.val + 64 * hh.val + p.val) := by
  unfold A_main_v95
  pointwise
  exact v83_at a0 a1 a2 a3 a4 a5 a6 a7 b q g hh p n

/-- The decay over a whole chunk, chunk first. -/
theorem v96_at (q : Fin 256) (b : Fin 2) (g : Fin 2) (hh : Fin 8) : A_main_v96 (F := Ideal) a0 a1 a2 a3 a4 a5 a6 (ix4 q b g hh)
    = Ideal.exp (AC (argsOf a0 a1 a2 a3 a4 a5 a6 a7) (256 * b.val + q.val) 63 (8 * g.val + hh.val)) := by
  unfold A_main_v96 A_main_v86 A_main_v85 A_main_v84
  pointwise
  rw [ac_at a0 a1 a2 a3 a4 a5 a6 a7]
  rfl

/-- The reading rows, chunk first. -/
theorem v97_at (q : Fin 256) (b : Fin 2) (s : Fin 64) (g : Fin 2) (n : Fin 128) : A_main_v97 (F := Ideal) a0 a1 a2 a3 a4 a5 a6 (ix5 q b s g n)
    = CC (argsOf a0 a1 a2 a3 a4 a5 a6 a7) (64 * (256 * b.val + q.val) + s.val) g.val n.val := by
  unfold A_main_v97
  pointwise
  exact cc_at a0 a1 a2 a3 a4 a5 a6 a7 b q s g n

/-- The decay from a chunk's start, chunk first. -/
theorem v98_at (q : Fin 256) (b : Fin 2) (s : Fin 64) (g : Fin 2) (hh : Fin 8) : A_main_v98 (F := Ideal) a0 a1 a2 a3 a4 a5 a6 (ix5 q b s g hh)
    = Ideal.exp (AC (argsOf a0 a1 a2 a3 a4 a5 a6 a7) (256 * b.val + q.val) s.val (8 * g.val + hh.val)) := by
  unfold A_main_v98 A_main_v94
  pointwise
  rw [ac_at a0 a1 a2 a3 a4 a5 a6 a7]

/-- The chunk's own part with the skip, chunk first. -/
theorem v99_at (q : Fin 256) (b : Fin 2) (s : Fin 64) (g : Fin 2) (hh : Fin 8) (p : Fin 64) : A_main_v99 (F := Ideal) a0 a1 a2 a3 a4 a5 a6 (ix6 q b s g hh p)
    = YD (argsOf a0 a1 a2 a3 a4 a5 a6 a7) (256 * b.val + q.val) s.val (512 * g.val + 64 * hh.val + p.val)
      + X (argsOf a0 a1 a2 a3 a4 a5 a6 a7) (64 * (256 * b.val + q.val) + s.val) (512 * g.val + 64 * hh.val + p.val) * (argsOf a0 a1 a2 a3 a4 a5 a6 a7).Ds (8 * g.val + hh.val) := by
  rw [← v75_at a0 a1 a2 a3 a4 a5 a6 a7, ← v39_at a0 a1 a2 a3 a4 a5 a6 a7, ← v90_at a0 a1 a2 a3 a4 a5 a6 a7 b q s g hh p]
  unfold A_main_v99
  have e : ∀ x : S2x256x64x2x8x64.Idx → EReal, transpose S256x2x64x2x8x64 [1, 0, 2, 3, 4, 5] x Gen.transposes_S2x256x64x2x8x64_S256x2x64x2x8x64_1_0_2_3_4_5 (ix6 q b s g hh p) = x (ix6 b q s g hh p) := by
    intro x
    pointwise
  refine (e _).trans ?_
  unfold A_main_v92 A_main_v91
  rw [add_at, mul_at]

end Before
end Cert.ReferenceIdeal.Ssd
-- ==== Proof.RefLoop.lean ====
/-
  The reference's loop over the chunks: before trip `n` the carried state is the state that enters chunk `n`, and the rows of the chunks
  before it are in place.
-/
module

public import proofs.«01_k».proof.Proof.Gen.ReferenceIdeal.Step
public import proofs.«01_k».proof.Proof.SsdArgs
public import proofs.«01_k».proof.Proof.RefB
public import Idealize.ShloMosaic.Lib.Pointwise
public import Idealize.ShloMosaic.Lib.DynamicIndex
public import Idealize.ShloMosaic.Lib.Pipeline.Value

@[expose] public section

set_option maxRecDepth 16384

noncomputable section

open Idealize.ShloMosaic Idealize.ShloMosaic.TcCoe Idealize.SL.Sem

namespace Cert.ReferenceIdeal.Ssd

open Cert.ReferenceIdeal Cert.ReferenceIdeal.Step Cert.SsdSpec

section Before
variable (a0 : FVec Ideal S32768x4608 .f32) (a1 : FVec Ideal S32768x128 .f32) (a2 : FVec Ideal S4x1536 .f32) (a3 : FVec Ideal S1536 .f32)
  (a4 a5 a6 : FVec Ideal S16 .f32) (a7 : FVec Ideal S1024 .f32)

/-- A slice at a start inside the array, entry by entry. -/
theorem dslice_at {s t : Shape} (x : s.Idx → EReal) (start : Fin s.rank → Int) (h : s.Slices (fun _ => 0) t) (i : t.Idx) (y : s.Idx) (k : Fin s.rank → ℕ)
    (hs : ∀ a, start a = (k a : Int)) (hk : ∀ a, k a + t.size (a.cast h.1.symm) ≤ s.size a) (hy : ∀ a, (y a).val = k a + (i (a.cast h.1.symm)).val) :
    Host.dynamicSlice t x start h i = x y := by
  rw [Host.dynamicSlice_eq_extractStridedSlice t x start k h ⟨h.1, hk⟩ hs]
  exact congrArg x (funext fun a => Fin.ext (hy a).symm)

/-- A write at a start inside the array, at an entry it covers. -/
theorem dupd_in {s u : Shape} (x : s.Idx → EReal) (upd : u.Idx → EReal) (start : Fin s.rank → Int) (h : s.Slices (fun _ => 0) u) (y : s.Idx) (i : u.Idx) (k : Fin s.rank → ℕ)
    (hs : ∀ a, start a = (k a : Int)) (hk : ∀ a, k a + u.size (a.cast h.1.symm) ≤ s.size a) (hy : ∀ a, (y a).val = k a + (i (a.cast h.1.symm)).val) :
    Host.dynamicUpdateSlice x upd start h y = upd i := by
  rw [Host.dynamicUpdateSlice_eq_updateSlice x upd start h k (fun a => by rw [hs a]; have := hk a; omega) ⟨h.1, hk⟩]
  unfold updateSlice
  rw [dif_pos (fun a => by rw [hy a]; have := (i (a.cast h.1.symm)).isLt; omega)]
  exact congrArg upd (funext fun b => Fin.ext (by
    have := hy (b.cast h.1)
    show (y (b.cast h.1)).val - k (b.cast h.1) = (i b).val
    rw [this]
    show _ + (i b).val - _ = _
    omega))

/-- At an entry whose first number is another, the write changes nothing. -/
theorem dupd_out {s u : Shape} (x : s.Idx → EReal) (upd : u.Idx → EReal) (start : Fin s.rank → Int) (h : s.Slices (fun _ => 0) u) (y : s.Idx) (k : Fin s.rank → ℕ)
    (hs : ∀ a, start a = (k a : Int)) (hk : ∀ a, k a + u.size (a.cast h.1.symm) ≤ s.size a) (a : Fin s.rank) (ha : (y a).val < k a) :
    Host.dynamicUpdateSlice x upd start h y = x y ∧ True := by
  rw [Host.dynamicUpdateSlice_eq_updateSlice x upd start h k (fun a => by rw [hs a]; have := hk a; omega) ⟨h.1, hk⟩]
  unfold updateSlice
  rw [dif_neg (fun hin => by have := (hin a).1; omega)]
  exact ⟨rfl, trivial⟩

section Trip
variable (j : ℕ) (hj : j < 256) (st : State Ideal)
include hj

/-- The state chunk `j` makes. -/
theorem b6_at (b g : Fin 2) (hh : Fin 8) (p : Fin 64) (n : Fin 128) : b6 (F := Ideal) j st (ix5 b g hh p n) = st.main_v101_0 (ix6 ⟨j, hj⟩ b g hh p n) := by
  have e : b6 (F := Ideal) j st (ix5 b g hh p n) = b5 (F := Ideal) j st (ix6 0 b g hh p n) := by
    unfold b6
    generalize b5 (F := Ideal) j st = x
    pointwise
  rw [e]
  unfold b5
  refine dslice_at _ _ _ _ _ ![j, 0, 0, 0, 0, 0] ?_ ?_ ?_
  · intro a
    fin_cases a
    · exact toInt_ofNat_of_lt (by omega)
    all_goals rfl
  · intro a
    fin_cases a
    · show j + 1 ≤ 256; omega
    all_goals exact Nat.le_of_eq (Nat.zero_add _)
  · intro a
    fin_cases a
    · rfl
    all_goals exact (Nat.zero_add _).symm

/-- The decay over chunk `j`. -/
theorem b11_at (b g : Fin 2) (hh : Fin 8) : b11 (F := Ideal) j st (ix3 b g hh) = st.main_v101_1 (ix4 ⟨j, hj⟩ b g hh) := by
  have e : b11 (F := Ideal) j st (ix3 b g hh) = b10 (F := Ideal) j st (ix4 0 b g hh) := by
    unfold b11
    generalize b10 (F := Ideal) j st = x
    pointwise
  rw [e]
  unfold b10
  refine dslice_at _ _ _ _ _ ![j, 0, 0, 0] ?_ ?_ ?_
  · intro a
    fin_cases a
    · exact toInt_ofNat_of_lt (by omega)
    all_goals rfl
  · intro a
    fin_cases a
    · show j + 1 ≤ 256; omega
    all_goals exact Nat.le_of_eq (Nat.zero_add _)
  · intro a
    fin_cases a
    · rfl
    all_goals exact (Nat.zero_add _).symm

/-- The reading rows of chunk `j`. -/
theorem b17_at (b : Fin 2) (s : Fin 64) (g : Fin 2) (n : Fin 128) : b17 (F := Ideal) j st (ix4 b s g n) = st.main_v101_2 (ix5 ⟨j, hj⟩ b s g n) := by
  have e : b17 (F := Ideal) j st (ix4 b s g n) = b16 (F := Ideal) j st (ix5 0 b s g n) := by
    unfold b17
    generalize b16 (F := Ideal) j st = x
    pointwise
  rw [e]
  unfold b16
  refine dslice_at _ _ _ _ _ ![j, 0, 0, 0, 0] ?_ ?_ ?_
  · intro a
    fin_cases a
    · exact toInt_ofNat_of_lt (by omega)
    all_goals rfl
  · intro a
    fin_cases a
    · show j + 1 ≤ 256; omega
    all_goals exact Nat.le_of_eq (Nat.zero_add _)
  · intro a
    fin_cases a
    · rfl
    all_goals exact (Nat.zero_add _).symm

/-- The decays from the start of chunk `j`. -/
theorem b23_at (b : Fin 2) (s : Fin 64) (g : Fin 2) (hh : Fin 8) : b23 (F := Ideal) j st (ix4 b s g hh) = st.main_v101_3 (ix5 ⟨j, hj⟩ b s g hh) := by
  have e : b23 (F := Ideal) j st (ix4 b s g hh) = b22 (F := Ideal) j st (ix5 0 b s g hh) := by
    unfold b23
    generalize b22 (F := Ideal) j st = x
    pointwise
  rw [e]
  unfold b22
  refine dslice_at _ _ _ _ _ ![j, 0, 0, 0, 0] ?_ ?_ ?_
  · intro a
    fin_cases a
    · exact toInt_ofNat_of_lt (by omega)
    all_goals rfl
  · intro a
    fin_cases a
    · show j + 1 ≤ 256; omega
    all_goals exact Nat.le_of_eq (Nat.zero_add _)
  · intro a
    fin_cases a
    · rfl
    all_goals exact (Nat.zero_add _).symm

/-- The own part of chunk `j`. -/
theorem b30_at (b : Fin 2) (s : Fin 64) (g : Fin 2) (hh : Fin 8) (p : Fin 64) : b30 (F := Ideal) j st (ix5 b s g hh p) = st.main_v101_4 (ix6 ⟨j, hj⟩ b s g hh p) := by
  have e : b30 (F := Ideal) j st (ix5 b s g hh p) = b29 (F := Ideal) j st (ix6 0 b s g hh p) := by
    unfold b30
    generalize b29 (F := Ideal) j st = x
    pointwise
  rw [e]
  unfold b29
  refine dslice_at _ _ _ _ _ ![j, 0, 0, 0, 0, 0] ?_ ?_ ?_
  · intro a
    fin_cases a
    · exact toInt_ofNat_of_lt (by omega)
    all_goals rfl
  · intro a
    fin_cases a
    · show j + 1 ≤ 256; omega
    all_goals exact Nat.le_of_eq (Nat.zero_add _)
  · intro a
    fin_cases a
    · rfl
    all_goals exact (Nat.zero_add _).symm

/-- The next state: the decayed one and the chunk's. -/
theorem b39_at (b g : Fin 2) (hh : Fin 8) (p : Fin 64) (n : Fin 128) : b39 (F := Ideal) j st (ix5 b g hh p n)
    = st.main_v101_6 (ix5 b g hh p n) * st.main_v101_1 (ix4 ⟨j, hj⟩ b g hh) + st.main_v101_0 (ix6 ⟨j, hj⟩ b g hh p n) := by
  have e : b37 (F := Ideal) j st (ix5 b g hh p n) = b11 (F := Ideal) j st (ix3 b g hh) := by
    unfold b37 b36
    generalize b11 (F := Ideal) j st = x
    rw [broadcastInDim_apply _ _ _ _ (ix5 b g hh 0 0) (by intro a; fin_cases a <;> rfl)]
    rw [broadcastInDim_apply _ _ _ _ (ix3 b g hh) (by intro a; fin_cases a <;> rfl)]
  unfold b39 b38
  rw [add_at, mul_at, e, b6_at j hj, b11_at j hj]

/-- The chunk's rows: its own part and the entering state's. -/
theorem b40_at (b : Fin 2) (s : Fin 64) (g : Fin 2) (hh : Fin 8) (p : Fin 64) : b40 (F := Ideal) j st (ix5 b s g hh p)
    = st.main_v101_4 (ix6 ⟨j, hj⟩ b s g hh p) + (∑ n : Fin 128, st.main_v101_6 (ix5 b g hh p n) * st.main_v101_2 (ix5 ⟨j, hj⟩ b s g n)) * st.main_v101_3 (ix5 ⟨j, hj⟩ b s g hh) := by
  have e : b34 (F := Ideal) j st (ix5 b s g hh p) = b23 (F := Ideal) j st (ix4 b s g hh) := by
    unfold b34 b33
    generalize b23 (F := Ideal) j st = x
    rw [broadcastInDim_apply _ _ _ _ (ix5 b s g hh 0) (by intro a; fin_cases a <;> rfl)]
    rw [broadcastInDim_apply _ _ _ _ (ix4 b s g hh) (by intro a; fin_cases a <;> rfl)]
  have e2 : b32 (F := Ideal) j st (ix5 b s g hh p) = ∑ n : Fin 128, st.main_v101_6 (ix5 b g hh p n) * b17 (F := Ideal) j st (ix4 b s g n) := by
    unfold b32 b31
    generalize b17 (F := Ideal) j st = x
    pointwise
  unfold b40 b35
  rw [add_at, mul_at, e, e2, b30_at j hj, b23_at j hj]
  simp only [b17_at j hj]

/-- The rows after the trip: the chunk's at its place, the earlier ones kept. -/
theorem b47_at (i : Fin 256) (hi : i.val ≤ j) (b : Fin 2) (s : Fin 64) (g : Fin 2) (hh : Fin 8) (p : Fin 64) : b47 (F := Ideal) j st (ix6 i b s g hh p)
    = if i.val = j then b40 (F := Ideal) j st (ix5 b s g hh p) else st.main_v101_7 (ix6 i b s g hh p) := by
  have e : b41 (F := Ideal) j st (ix6 0 b s g hh p) = b40 (F := Ideal) j st (ix5 b s g hh p) := by
    unfold b41
    generalize b40 (F := Ideal) j st = x
    rw [broadcastInDim_apply _ _ _ _ (ix5 b s g hh p) (by intro a; fin_cases a <;> rfl)]
  have hs : ∀ a : Fin 6, ((![(constantI S_ 32 (BitVec.ofNat 32 j) : S_.Idx → BitVec 32), b42 (F := Ideal) j st, b43 (F := Ideal) j st, b44 (F := Ideal) j st, b45 (F := Ideal) j st, b46 (F := Ideal) j st] : Fin 6 → S_.Idx → BitVec 32) a (Shape.Idx.first Gen.h_S_)).toInt
      = (((![j, 0, 0, 0, 0, 0] : Fin 6 → ℕ) a : ℕ) : Int) := by
    intro a
    fin_cases a
    · exact toInt_ofNat_of_lt (by omega)
    all_goals rfl
  unfold b47
  by_cases h : i.val = j
  · rw [if_pos h, ← e]
    refine dupd_in _ _ _ _ _ (ix6 0 b s g hh p) ![j, 0, 0, 0, 0, 0] hs ?_ ?_
    · intro a
      fin_cases a
      · show j + 1 ≤ 256; omega
      all_goals exact Nat.le_of_eq (Nat.zero_add _)
    · intro a
      fin_cases a
      · exact h
      all_goals exact (Nat.zero_add _).symm
  · rw [if_neg h]
    refine (dupd_out _ _ _ _ _ ![j, 0, 0, 0, 0, 0] hs ?_ 0 ?_).1
    · intro a
      fin_cases a
      · show j + 1 ≤ 256; omega
      all_goals exact Nat.le_of_eq (Nat.zero_add _)
    · show i.val < j
      omega

end Trip

/-- The carried arrays before trip `n`: the entering state, the rows of the chunks before, the arrays from before the loop. -/
structure Inv (n : ℕ) (st : State Ideal) : Prop where
  h6 : ∀ (b g : Fin 2) (hh : Fin 8) (p : Fin 64) (k : Fin 128), st.main_v101_6 (ix5 b g hh p k) = H (argsOf a0 a1 a2 a3 a4 a5 a6 a7) b.val n k.val (512 * g.val + 64 * hh.val + p.val)
  h7 : ∀ (i : Fin 256), i.val < n → ∀ (b : Fin 2) (s : Fin 64) (g : Fin 2) (hh : Fin 8) (p : Fin 64),
    st.main_v101_7 (ix6 i b s g hh p) = YF (argsOf a0 a1 a2 a3 a4 a5 a6 a7) (256 * b.val + i.val) s.val (512 * g.val + 64 * hh.val + p.val)
  f0 : st.main_v101_0 = A_main_v95 (F := Ideal) a0 a1 a2 a3 a4 a5 a6
  f1 : st.main_v101_1 = A_main_v96 (F := Ideal) a0 a1 a2 a3 a4 a5 a6
  f2 : st.main_v101_2 = A_main_v97 (F := Ideal) a0 a1 a2 a3 a4 a5 a6
  f3 : st.main_v101_3 = A_main_v98 (F := Ideal) a0 a1 a2 a3 a4 a5 a6
  f4 : st.main_v101_4 = A_main_v99 (F := Ideal) a0 a1 a2 a3 a4 a5 a6

/-- The invariant at the entry. -/
theorem inv_zero : Inv a0 a1 a2 a3 a4 a5 a6 a7 0 (init (F := Ideal) a0 a1 a2 a3 a4 a5 a6) where
  h6 := fun b g hh p k => by
    show K_main_v93 (F := Ideal) (ix5 b g hh p k) = 0
    unfold K_main_v93 K_main_cst_2
    pointwise
  h7 := fun i hi => absurd hi (Nat.not_lt_zero _)
  f0 := rfl
  f1 := rfl
  f2 := rfl
  f3 := rfl
  f4 := rfl

/-- A trip keeps the invariant. -/
theorem inv_step (n : ℕ) (hn : n < 256) (st : State Ideal) (h : Inv a0 a1 a2 a3 a4 a5 a6 a7 n st) : Inv a0 a1 a2 a3 a4 a5 a6 a7 (n + 1) (step n st) where
  h6 := fun b g hh p k => by
    have := p.isLt
    have := hh.isLt
    have e2 : (512 * g.val + 64 * hh.val + p.val) / 64 = 8 * g.val + hh.val := by omega
    rw [step_main_v101_6, b39_at n hn, h.f0, h.f1, h.h6, v95_at a0 a1 a2 a3 a4 a5 a6 a7, v96_at a0 a1 a2 a3 a4 a5 a6 a7, ← e2]
    rfl
  h7 := fun i hi b s g hh p => by
    rw [step_main_v101_7, b47_at n hn st i (by omega)]
    by_cases e : i.val = n
    · have := p.isLt
      have := hh.isLt
      have e1 : (512 * g.val + 64 * hh.val + p.val) / 512 = g.val := by omega
      have e2 : (512 * g.val + 64 * hh.val + p.val) / 64 = 8 * g.val + hh.val := by omega
      have e3 : (256 * b.val + n) / 256 = b.val := by omega
      have e4 : (256 * b.val + n) % 256 = n := by omega
      rw [if_pos e, b40_at n hn, h.f2, h.f3, h.f4, v98_at a0 a1 a2 a3 a4 a5 a6 a7, v99_at a0 a1 a2 a3 a4 a5 a6 a7, e]
      unfold YF
      rw [e1, e2, e3, e4, add_right_comm]
      congr 3
      refine Finset.sum_congr rfl fun k _ => ?_
      rw [h.h6, v97_at a0 a1 a2 a3 a4 a5 a6 a7, mul_comm]
    · rw [if_neg e]
      exact h.h7 i (by omega) b s g hh p
  f0 := h.f0
  f1 := h.f1
  f2 := h.f2
  f3 := h.f3
  f4 := h.f4

/-- Any sequence of states that starts at the entry and goes on by the step keeps the invariant for the 256 trips. -/
theorem inv_iter (it : ℕ → State Ideal) (h0 : it 0 = init (F := Ideal) a0 a1 a2 a3 a4 a5 a6) (hs : ∀ n, it (n + 1) = step n (it n)) :
    ∀ n, n ≤ 256 → Inv a0 a1 a2 a3 a4 a5 a6 a7 n (it n)
  | 0, _ => h0 ▸ inv_zero a0 a1 a2 a3 a4 a5 a6 a7
  | n + 1, h => by
    rw [hs n]
    exact inv_step a0 a1 a2 a3 a4 a5 a6 a7 n (by omega) _ (inv_iter it h0 hs n (by omega))

end Before
end Cert.ReferenceIdeal.Ssd
-- ==== Proof.RefOut.lean ====
/-
  The reference's result of the rows its loop leaves: the gate, the mean of squares over half a row, the norm weights.
-/
module

public import proofs.«01_k».proof.Proof.Gen.ReferenceIdeal.Step
public import proofs.«01_k».proof.Proof.SsdArgs
public import proofs.«01_k».proof.Proof.RefLoop
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

namespace Cert.ReferenceIdeal.Ssd

open Cert.ReferenceIdeal Cert.ReferenceIdeal.Step Cert.ReferenceIdeal.Gen Cert.SsdSpec

section Before
variable (a0 : FVec Ideal S32768x4608 .f32) (a1 : FVec Ideal S32768x128 .f32) (a2 : FVec Ideal S4x1536 .f32) (a3 : FVec Ideal S1536 .f32)
  (a4 a5 a6 : FVec Ideal S16 .f32) (a7 : FVec Ideal S1024 .f32)

/-- The gated rows. -/
def gated (y : FVec Ideal S256x2x64x2x8x64 .f32) (a0 : FVec Ideal S32768x4608 .f32) : FVec Ideal S2x16384x1024 .f32 :=
  (mulf (shapeCast S2x16384x1024 (transpose S2x256x64x2x8x64 [1, 0, 2, 3, 4, 5] y transposes_S256x2x64x2x8x64_S2x256x64x2x8x64_1_0_2_3_4_5) shapeCasts_S2x256x64x2x8x64_S2x16384x1024) (mulf (shapeCast S2x16384x1024 (extractStridedSlice S32768x1024 ![0, 2048] (a0) slices_S32768x4608_S32768x1024_0_2048) shapeCasts_S32768x1024_S2x16384x1024) (Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf (shapeCast S2x16384x1024 (extractStridedSlice S32768x1024 ![0, 2048] (a0) slices_S32768x4608_S32768x1024_0_2048) shapeCasts_S32768x1024_S2x16384x1024)))))))

/-- The normalised rows, of the gated ones. -/
def normed (t : FVec Ideal S2x16384x1024 .f32) (a7 : FVec Ideal S1024 .f32) : FVec Ideal S32768x1024 .f32 :=
  shapeCast _ (mulf (shapeCast _ (mulf (shapeCast _ t shapeCasts_S2x16384x1024_S2x16384x2x512) (broadcastInDim S2x16384x2x512 ![0, 1, 2, 3] bcast_S2x16384x2x1_S2x16384x2x512_0_1_2_3 (Host.rsqrt (addf (Host.divf (broadcastInDim S2x16384x2x1 ![0, 1, 2] bcast_S2x16384x2_S2x16384x2x1_0_1_2 (Host.reduceAdd (mulf (shapeCast _ t shapeCasts_S2x16384x1024_S2x16384x2x512) (shapeCast _ t shapeCasts_S2x16384x1024_S2x16384x2x512)) (constant S_ .f32 0x00000000#32) reducesTo_S2x16384x2x512_S2x16384x2_d3 h_S_)) (broadcastInDim S2x16384x2x1 ![] bcast_S_S2x16384x2x1 (constant S_ .f32 0x44000000#32))) (broadcastInDim S2x16384x2x1 ![] bcast_S_S2x16384x2x1 (constant S_ .f32 0x3727C5AC#32)))))) shapeCasts_S2x16384x2x512_S2x16384x1024) (broadcastInDim S2x16384x1024 ![0, 1, 2] bcast_S1x1x1024_S2x16384x1024_0_1_2 (broadcastInDim S1x1x1024 ![2] bcast_S1024_S1x1x1024_2 (a7)))) shapeCasts_S2x16384x1024_S32768x1024

/-- The result is the normalised gated rows. -/
theorem R_eq (st : State Ideal) : R_main_v123 (F := Ideal) st a0 a7 = normed (gated st.main_v101_7 a0) a7 := rfl

/-- The gated rows, entry by entry. -/
theorem gated_at (y : FVec Ideal S256x2x64x2x8x64 .f32)
    (hy : ∀ (i : Fin 256) (b : Fin 2) (s : Fin 64) (g : Fin 2) (hh : Fin 8) (p : Fin 64), y (ix6 i b s g hh p) = YF (argsOf a0 a1 a2 a3 a4 a5 a6 a7) (256 * b.val + i.val) s.val (512 * g.val + 64 * hh.val + p.val))
    (b : Fin 2) (s : Fin 16384) (c : Fin 1024) : gated y a0 (ix3 b s c) = G (argsOf a0 a1 a2 a3 a4 a5 a6 a7) (16384 * b.val + s.val) c.val := by
  unfold gated
  have e : shapeCast S2x16384x1024 (transpose S2x256x64x2x8x64 [1, 0, 2, 3, 4, 5] y transposes_S256x2x64x2x8x64_S2x256x64x2x8x64_1_0_2_3_4_5) shapeCasts_S2x256x64x2x8x64_S2x16384x1024 (ix3 b s c)
      = YF (argsOf a0 a1 a2 a3 a4 a5 a6 a7) ((16384 * b.val + s.val) / 64) ((16384 * b.val + s.val) % 64) c.val := by
    pointwise
    rw [hy]
    have := c.isLt
    have e1 : 256 * b.val + s.val / 64 = (16384 * b.val + s.val) / 64 := by omega
    have e2 : s.val % 64 = (16384 * b.val + s.val) % 64 := by omega
    have e3 : 512 * (c.val / 512) + 64 * (c.val / 64 % 8) + c.val % 64 = c.val := by omega
    simp only [← e1, ← e2, e3]
  generalize shapeCast S2x16384x1024 (transpose S2x256x64x2x8x64 [1, 0, 2, 3, 4, 5] y transposes_S256x2x64x2x8x64_S2x256x64x2x8x64_1_0_2_3_4_5) shapeCasts_S2x256x64x2x8x64_S2x16384x1024 = x at e ⊢
  pointwise
  rw [e]
  have := b.isLt
  have := s.isLt
  have w := tot2_at a0 (16384 * b.val + s.val) (2048 + c.val) (by omega) (by omega)
  unfold G silu
  show _ = _ * (tot2 a0 _ _ * Ideal.div 1 (1 + Ideal.exp (0 - tot2 a0 _ _)))
  rw [← w]
  simp only [zero_sub, Nat.mul_comm 16384 b.val]

/-- The normalised rows, entry by entry. -/
theorem normed_at (t : FVec Ideal S2x16384x1024 .f32)
    (ht : ∀ (b : Fin 2) (s : Fin 16384) (c : Fin 1024), t (ix3 b s c) = G (argsOf a0 a1 a2 a3 a4 a5 a6 a7) (16384 * b.val + s.val) c.val)
    (r : Fin 32768) (c : Fin 1024) : normed t a7 (ix2 r c) = OUT (argsOf a0 a1 a2 a3 a4 a5 a6 a7) r.val c.val := by
  unfold normed
  pointwise
  simp only [ht]
  have w := tot1_at a7 c.val c.isLt
  have e1 : 16384 * (r.val / 16384) + r.val % 16384 = r.val := by omega
  have e2 : c.val / 512 * 512 = 512 * (c.val / 512) := Nat.mul_comm _ _
  simp only [e1, e2]
  unfold OUT
  show _ = _ * tot1 a7 _
  rw [← w]

/-- The reference's result after 256 trips. -/
theorem out_eq (st : State Ideal) (h : Inv a0 a1 a2 a3 a4 a5 a6 a7 256 st) :
    R_main_v123 (F := Ideal) st a0 a7 = fun y : S32768x1024.Idx => OUT (argsOf a0 a1 a2 a3 a4 a5 a6 a7) (y 0).val (y 1).val := by
  rw [R_eq]
  funext y
  change S32768x1024.Idx at y
  idx_vars y
  exact normed_at a0 a1 a2 a3 a4 a5 a6 a7 _ (gated_at a0 a1 a2 a3 a4 a5 a6 a7 _ (fun i b s g hh p => h.h7 i i.isLt b s g hh p)) _ _

end Before
end Cert.ReferenceIdeal.Ssd
-- ==== Proof.Ssd.lean ====
/-
  The recurrence kernel's result array is the reference's: both are the same function of the eight arguments.
-/
module

public import proofs.«01_k».proof.Proof.Ker
public import proofs.«01_k».proof.Proof.RefRun
public import proofs.«01_k».proof.Proof.RefOut
public import proofs.«01_k».proof.Defs

@[expose] public section

noncomputable section

open Idealize.ShloMosaic Idealize.ShloMosaic.TcCoe Idealize.SL.Sem

namespace Cert.Ssd

/-- The reference's carried arrays before trip `n`. -/
def it (m : (ℓ : Loc Cert.ReferenceIdeal.nD Cert.ReferenceIdeal.τ Cert.ReferenceIdeal.sig) → Buf (Elt Ideal) ℓ) (c : Dev Cert.ReferenceIdeal.nD) : ℕ → Cert.ReferenceIdeal.Step.State Ideal
  | 0 => Cert.ReferenceIdeal.Ssd.start m c
  | n + 1 => Cert.ReferenceIdeal.Step.step n (it m c n)

/-- The kernel's result array is the reference's. -/
theorem algebraic : algebraic_KernelIdeal_ReferenceIdeal (hKernelIdeal := Cert.KernelIdeal.Gen.facts) (hReferenceIdeal := Cert.ReferenceIdeal.Gen.facts) := by
  intro m g m' g' _ hagree
  refine ⟨fun c => (Cert.KernelIdeal.Gen.dats m 0 c).arrAt 15 Cert.KernelIdeal.cfg0.N, Cert.KernelIdeal.Value.run_blocks (F := Ideal) m g, ?_⟩
  · refine (θ_run _ _ _).mono (fun r h c => ⟨?_, (h c).2⟩) (Cert.ReferenceIdeal.Value.run (F := Ideal) m' g')
    refine (h c).1.trans ((Cert.ReferenceIdeal.Ssd.result m' c (it m' c) rfl fun _ => rfl).trans ?_)
    refine (Cert.ReferenceIdeal.Ssd.out_eq _ _ _ _ _ _ _ _ _ (Cert.ReferenceIdeal.Ssd.inv_iter _ _ _ _ _ _ _ _ (it m' c) rfl (fun _ => rfl) 256 le_rfl)).trans ?_
    obtain ⟨h0, h1, h2, h3, h4, h5, h6, h7⟩ := hagree c
    rw [h0, h1, h2, h3, h4, h5, h6, h7]
    exact (Cert.KernelIdeal.Ssd.final m c).symm

end Cert.Ssd

end
-- ==== Proof.InProj.lean ====
/-
  The input projection: the kernel's result array and the reference's, both as one sum of products per entry.
-/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Quiescent
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen

variable (m : (ℓ : Loc nD τ sig) → Buf (Elt Ideal) ℓ) (ρ : Dev nD → PrngReg)

/-- The projection of the rows of `x` through the first 4608 columns of `w`, entry by entry. -/
def proj (x : S32768x2048.Idx → EReal) (w : S2048x4624.Idx → EReal) : S32768x4608.Idx → EReal :=
  fun i => ∑ k : Fin 2048, x (ix2 (i 0) k) * w (ix2 k ⟨(i 1).val, Nat.lt_trans (i 1).isLt (by decide)⟩)

/-- The offset of a whole matrix. -/
theorem hz : (![0, 0] : Fin 2 → Nat) = fun _ => 0 := funext fun a => by fin_cases a <;> rfl

/-- The weights the region finds: the first 4608 columns. -/
theorem V_w (c : Dev nD) (i : S2048x4608.Idx) :
    V m c main_v1 i = m ((c : Thread nD τ).loc main_arg1) (ix2 (i 0) ⟨(i 1).val, Nat.lt_trans (i 1).isLt (by decide)⟩) := by
  have e : V m c main_v1 = truncf (F := Ideal) .bf16 (extractStridedSlice S2048x4608 ![0, 0] (m ((c : Thread nD τ).loc main_arg1)) slices_S2048x4624_S2048x4608_0_0) bitsLt_bf16_f32 := by
    unfold V; after_results_simp
  rw [e]
  idx_vars i
  pointwise

/-- Where the three windows stand at a grid point. -/
theorem idx (t : Fin cfg0.N) : win0_0.index t = ![t.val % 64, 0] ∧ win0_1.index t = ![0, t.val / 64] ∧ win0_2.index t = ![t.val % 64, t.val / 64] :=
  (by decide +kernel : ∀ t : Fin grid0.N, win0_0.index t = ![t.val % 64, 0] ∧ win0_1.index t = ![0, t.val / 64] ∧ win0_2.index t = ![t.val % 64, t.val / 64]) t

/-- One body of the kernel: the block's product, entry by entry. -/
theorem pay (x : Vec Ideal S512x2048 .f32) (w : Vec Ideal S2048x1536 .bf16) (y : S512x1536.Idx) :
    k0_pay1 x w y = ∑ k : Fin 2048, x (ix2 (y 0) k) * w (ix2 k (y 1)) := by
  idx_vars y
  unfold k0_pay1
  pointwise

/-- The result array ends holding the projection. -/
theorem final (c : Dev nD) : (dats m 0 c).arrAt 2 cfg0.N = proj (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  unfold out0_2
  rw [View.canon_unit_zero hz, View.ld_unit_zero hz, View.ld_unit_zero hz]
  refine (pay _ _ _).trans ?_
  change @Eq EReal _ _
  unfold proj
  refine Finset.sum_congr rfl fun k _ => ?_
  congr 1
  · blk_simp [iblk]
    refine congrArg (m ((c : Thread nD τ).loc main_arg0)) ?_
    blk_ext [e0, e2]
  · blk_simp [iblk]
    rw [V_w]
    refine congrArg (m ((c : Thread nD τ).loc main_arg1)) ?_
    blk_ext [e1, e2]

end Cert.Kernel2Ideal.InProj

namespace Cert.Reference2Ideal.InProj

open Cert.Reference2Ideal Cert.Reference2Ideal.Gen

/-- The reference's term, entry by entry. -/
theorem ref (x : FVec Ideal S32768x2048 .f32) (w : FVec Ideal S2048x4624 .f32) :
    Host.dotGeneral (F := Ideal) dot_S32768x2048_S2048x4608_S32768x4608_1_0_0_1_n_n none x (extractStridedSlice S2048x4608 ![0, 0] w slices_S2048x4624_S2048x4608_0_0)
      = Cert.Kernel2Ideal.InProj.proj x w := by
  funext y
  idx_vars y
  unfold Cert.Kernel2Ideal.InProj.proj
  pointwise

end Cert.Reference2Ideal.InProj

namespace Cert.InProj

/-- The kernel's result array is the reference's. -/
theorem algebraic : algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.InProj.proj (m (c.tc.loc Cert.Kernel2Ideal.main_arg0)) (m (c.tc.loc Cert.Kernel2Ideal.main_arg1)), ?_, ?_⟩
  · exact (θ_run _ _ _).mono (fun r h c => ⟨(h c).1.trans (Cert.Kernel2Ideal.InProj.final m c), (h c).2⟩) (Cert.Kernel2Ideal.Value.run_blocks (F := Ideal) m g)
  · refine (θ_run _ _ _).mono (fun r h c => ⟨?_, (h c).2⟩) (Cert.Reference2Ideal.Value.run (F := Ideal) m' g')
    refine (h c).1.trans ((Cert.Reference2Ideal.InProj.ref _ _).trans ?_)
    rw [(hagree c).1, (hagree c).2]

end Cert.InProj

end
-- ==== Proof.Norm.lean ====
/-
  The layer normalization of a row: the kernels' vector operations on a block of 256 rows and the references' host
  operations on all 32768 rows, both as one function of the row.
-/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit.Basic

@[expose] public section

set_option maxRecDepth 16384

noncomputable section

open Idealize.ShloMosaic Idealize.ShloMosaic.TcCoe Idealize.SL.Sem

namespace Cert.Norm

/-- The deviation of entry `c` of a row from the row's mean. -/
def dev (v : Fin 2048 → EReal) (c : Fin 2048) : EReal :=
  v c - Ideal.div (∑ k, v k) (Ideal.ofBits (FTy.f32) 0x45000000#32)

/-- Entry `c` of a row, normalized, scaled by `g` and shifted by `b`. -/
def ln (v : Fin 2048 → EReal) (g b : EReal) (c : Fin 2048) : EReal :=
  dev v c * Ideal.rsqrt (Ideal.div (∑ k, dev v k * dev v k) (Ideal.ofBits (FTy.f32) 0x45000000#32) + Ideal.ofBits (FTy.f32) 0x3727C5AC#32) * g + b

section Kernel
open Cert.Kernel5Ideal Cert.Kernel5Ideal.Gen

/-- The deviations of a block's rows. -/
def kDev (x : FVec Ideal S256x2048 .f32) : FVec Ideal S256x2048 .f32 :=
  subf x (broadcastTo S256x2048 (divf (shapeCast S256x1 (multiReduction .add [1] S256 x 0x00000000#32 reduces_S256x2048_S256 (.inl rfl) rfl) shapeCasts_S256_S256x1)
    (broadcast S256x1 (Scalar.ofBits .f32 0x45000000#32))) broadcasts_S256x1_S256x2048)

/-- The normalization of a block's rows. -/
def kLn (x : FVec Ideal S256x2048 .f32) (g b : FVec Ideal S1x2048 .f32) : FVec Ideal S256x2048 .f32 :=
  addf (mulf (mulf (kDev x) (broadcastTo S256x2048 (rsqrt (addf (divf (shapeCast S256x1
      (multiReduction .add [1] S256 (mulf (kDev x) (kDev x)) 0x00000000#32 reduces_S256x2048_S256 (.inl rfl) rfl) shapeCasts_S256_S256x1)
      (broadcast S256x1 (Scalar.ofBits .f32 0x45000000#32))) (broadcast S256x1 (Scalar.ofBits .f32 0x3727C5AC#32)))) broadcasts_S256x1_S256x2048))
    (broadcastTo S256x2048 g broadcasts_S1x2048_S256x2048)) (broadcastTo S256x2048 b broadcasts_S1x2048_S256x2048)

/-- An entry of the deviations of a block's rows. -/
theorem kDev_at (x : FVec Ideal S256x2048 .f32) (r : Fin 256) (c : Fin 2048) : kDev x (ix2 r c) = dev (fun k => x (ix2 r k)) c := by
  unfold kDev dev
  pointwise

/-- An entry of a block's normalization. -/
theorem kLn_at (x : FVec Ideal S256x2048 .f32) (g b : FVec Ideal S1x2048 .f32) (r : Fin 256) (c : Fin 2048) :
    kLn x g b (ix2 r c) = ln (fun k => x (ix2 r k)) (g (ix2 0 c)) (b (ix2 0 c)) c := by
  unfold kLn ln
  pointwise [kDev_at]

end Kernel

section Reference
open Cert.Reference5Ideal Cert.Reference5Ideal.Gen

/-- The deviations of all rows. -/
def rDev (x : FVec Ideal S32768x2048 .f32) : FVec Ideal S32768x2048 .f32 :=
  subf x (broadcastInDim S32768x2048 ![0, 1] bcast_S32768x1_S32768x2048_0_1 (Host.divf (broadcastInDim S32768x1 ![0] bcast_S32768_S32768x1_0
    (Host.reduceAdd x (constant S_ .f32 0x00000000#32) reducesTo_S32768x2048_S32768_d1 h_S_)) (broadcastInDim S32768x1 ![] bcast_S_S32768x1 (constant S_ .f32 0x45000000#32))))

/-- The normalization of all rows. -/
def rLn (x : FVec Ideal S32768x2048 .f32) (g b : FVec Ideal S2048 .f32) : FVec Ideal S32768x2048 .f32 :=
  addf (mulf (mulf (rDev x) (broadcastInDim S32768x2048 ![0, 1] bcast_S32768x1_S32768x2048_0_1 (Host.rsqrt (addf (Host.divf (broadcastInDim S32768x1 ![0] bcast_S32768_S32768x1_0
      (Host.reduceAdd (mulf (rDev x) (rDev x)) (constant S_ .f32 0x00000000#32) reducesTo_S32768x2048_S32768_d1 h_S_)) (broadcastInDim S32768x1 ![] bcast_S_S32768x1 (constant S_ .f32 0x45000000#32)))
      (broadcastInDim S32768x1 ![] bcast_S_S32768x1 (constant S_ .f32 0x3727C5AC#32))))))
    (broadcastInDim S32768x2048 ![0, 1] bcast_S1x2048_S32768x2048_0_1 (broadcastInDim S1x2048 ![1] bcast_S2048_S1x2048_1 g)))
    (broadcastInDim S32768x2048 ![0, 1] bcast_S1x2048_S32768x2048_0_1 (broadcastInDim S1x2048 ![1] bcast_S2048_S1x2048_1 b))

/-- An entry of the deviations of all rows. -/
theorem rDev_at (x : FVec Ideal S32768x2048 .f32) (r : Fin 32768) (c : Fin 2048) : rDev x (ix2 r c) = dev (fun k => x (ix2 r k)) c := by
  unfold rDev dev
  pointwise

/-- An entry of the normalization of all rows. -/
theorem rLn_at (x : FVec Ideal S32768x2048 .f32) (g b : FVec Ideal S2048 .f32) (r : Fin 32768) (c : Fin 2048) :
    rLn x g b (ix2 r c) = ln (fun k => x (ix2 r k)) (g (ix1 c)) (b (ix1 c)) c := by
  unfold rLn ln
  pointwise [rDev_at]

end Reference

end Cert.Norm

end
-- ==== Proof.OutProj.lean ====
/-
  The output projection of the two mixers' outputs with its residual and normalization: the kernel's result array and the reference's, both
  as one function of the row.
-/
module

public import proofs.«01_k».proof.Proof.Norm
public import proofs.«01_k».proof.Proof.Gen.Kernel3Ideal.Value
public import proofs.«01_k».proof.Proof.Gen.Reference3Ideal.Run
public import Idealize.ShloMosaic.Lib.Pipeline.ValueKit.Geometry
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.OutProj

open Cert.Kernel3Ideal Cert.Kernel3Ideal.Gen Cert.Norm

variable (m : (ℓ : Loc nD τ sig) → Buf (Elt Ideal) ℓ) (ρ : Dev nD → PrngReg)

/-- An entry before the normalization: the residual and the projection of the two halves. -/
def pre (h : EReal) (u v : Fin 1024 → EReal) (w : Fin 2048 → EReal) : EReal :=
  Ideal.ofBits (FTy.f32) 0x3FD744FD#32 * h + ((∑ k : Fin 1024, u k * w ⟨k.val, by omega⟩) + ∑ k : Fin 1024, v k * w ⟨1024 + k.val, by omega⟩)

/-- The result array as a function of the arguments. -/
def out (u v : S32768x1024.Idx → EReal) (h : S32768x2048.Idx → EReal) (w : S2048x2048.Idx → EReal) (g b : S2048.Idx → EReal) : S32768x2048.Idx → EReal :=
  fun i => ln (fun c => pre (h (ix2 (i 0) c)) (fun k => u (ix2 (i 0) k)) (fun k => v (ix2 (i 0) k)) (fun k => w (ix2 k c))) (g (ix1 (i 1))) (b (ix1 (i 1))) (i 1)

/-- The offset of a whole matrix. -/
theorem hz : (![0, 0] : Fin 2 → Nat) = fun _ => 0 := funext fun a => by fin_cases a <;> rfl

/-- What the region finds in the arrays the host prepared. -/
theorem V_w1 (c : Dev nD) (k : Fin 1024) (l : Fin 2048) : V m c main_v1 (ix2 k l) = m ((c : Thread nD τ).loc main_arg3) (ix2 ⟨k.val, by omega⟩ l) := by
  have e : V m c main_v1 = extractStridedSlice S1024x2048 ![0, 0] (truncf (F := Ideal) .bf16 (m ((c : Thread nD τ).loc main_arg3)) bitsLt_bf16_f32) slices_S2048x2048_S1024x2048_0_0 := by
    unfold V; after_results_simp
  rw [e]
  pointwise
/-- The lower half of the weights, rows 1024 on. -/
theorem V_w2 (c : Dev nD) (k : Fin 1024) (l : Fin 2048) : V m c main_v2 (ix2 k l) = m ((c : Thread nD τ).loc main_arg3) (ix2 ⟨1024 + k.val, by omega⟩ l) := by
  have e : V m c main_v2 = extractStridedSlice S1024x2048 ![1024, 0] (truncf (F := Ideal) .bf16 (m ((c : Thread nD τ).loc main_arg3)) bitsLt_bf16_f32) slices_S2048x2048_S1024x2048_1024_0 := by
    unfold V; after_results_simp
  rw [e]
  pointwise
/-- The row of scales. -/
theorem V_g (c : Dev nD) (k : Fin 2048) : V m c main_v3 (ix2 0 k) = m ((c : Thread nD τ).loc main_arg4) (ix1 k) := by
  have e : V m c main_v3 = shapeCast S1x2048 (m ((c : Thread nD τ).loc main_arg4)) shapeCasts_S2048_S1x2048 := by
    unfold V; after_results_simp <;> rfl
  rw [e]
  pointwise
/-- The row of shifts. -/
theorem V_b (c : Dev nD) (k : Fin 2048) : V m c main_v4 (ix2 0 k) = m ((c : Thread nD τ).loc main_arg5) (ix1 k) := by
  have e : V m c main_v4 = shapeCast S1x2048 (m ((c : Thread nD τ).loc main_arg5)) shapeCasts_S2048_S1x2048 := by
    unfold V; after_results_simp <;> rfl
  rw [e]
  pointwise

/-- Where the windows stand at a grid point. -/
theorem idx (t : Fin cfg0.N) : win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![t.val, 0]) t

/-- A block's entries before the normalization, as the kernel computes them. -/
def kPre (u : Vec Ideal S256x1024 .f32) (w1 : Vec Ideal S1024x2048 .bf16) (v : Vec Ideal S256x1024 .f32) (w2 : Vec Ideal S1024x2048 .bf16) (h : Vec Ideal S256x2048 .f32) :
    FVec Ideal S256x2048 .f32 :=
  addf (mulf (broadcast S256x2048 (Scalar.ofBits .f32 0x3FD744FD#32)) h)
    (addf (matmul dot_S256x1024_S1024x2048_S256x2048_1_0_0_1_n_n none (truncf .bf16 u bitsLt_bf16_f32) (shapeCast S1024x2048 w1 shapeCasts_S1024x2048_S1024x2048 : FVec Ideal S1024x2048 .bf16) (constant S256x2048 .f32 0x00000000#32))
      (matmul dot_S256x1024_S1024x2048_S256x2048_1_0_0_1_n_n none (truncf .bf16 v bitsLt_bf16_f32) (shapeCast S1024x2048 w2 shapeCasts_S1024x2048_S1024x2048 : FVec Ideal S1024x2048 .bf16) (constant S256x2048 .f32 0x00000000#32)))

/-- An entry of a block before the normalization, as the kernel computes it. -/
theorem kPre_at (u : Vec Ideal S256x1024 .f32) (w1 : Vec Ideal S1024x2048 .bf16) (v : Vec Ideal S256x1024 .f32) (w2 : Vec Ideal S1024x2048 .bf16) (h : Vec Ideal S256x2048 .f32)
    (r : Fin 256) (c : Fin 2048) :
    kPre u w1 v w2 h (ix2 r c) = Ideal.ofBits (FTy.f32) 0x3FD744FD#32 * h (ix2 r c)
      + ((∑ k : Fin 1024, u (ix2 r k) * w1 (ix2 k c)) + ∑ k : Fin 1024, v (ix2 r k) * w2 (ix2 k c)) := by
  unfold kPre
  pointwise

/-- The body's stored block is the normalization of those entries. -/
theorem pay (u : Vec Ideal S256x1024 .f32) (w1 : Vec Ideal S1024x2048 .bf16) (v : Vec Ideal S256x1024 .f32) (w2 : Vec Ideal S1024x2048 .bf16) (h : Vec Ideal S256x2048 .f32)
    (g b : Vec Ideal S1x2048 .f32) (y : S256x2048.Idx) :
    k0_pay1 (k0_pay2 b) (k0_pay3 u w1 v w2 h g) y
      = ln (fun c => Ideal.ofBits (FTy.f32) 0x3FD744FD#32 * h (ix2 (y 0) c)
          + ((∑ k : Fin 1024, u (ix2 (y 0) k) * w1 (ix2 k c)) + ∑ k : Fin 1024, v (ix2 (y 0) k) * w2 (ix2 k c)))
        (g (ix2 0 (y 1))) (b (ix2 0 (y 1))) (y 1) := by
  have e : k0_pay1 (k0_pay2 b) (k0_pay3 u w1 v w2 h g) = kLn (kPre u w1 v w2 h) (shapeCast S1x2048 g shapeCasts_S1x2048_S1x2048) (k0_pay2 b) := rfl
  rw [e]
  idx_vars y
  refine (kLn_at _ _ _ _ _).trans ?_
  unfold k0_pay2
  pointwise [kPre_at]

/-- The result array ends holding `out` of the arguments. -/
theorem final (c : Dev nD) : (dats m 0 c).arrAt 7 cfg0.N = out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨e0, e1, e2, e3, e4, e5, e6, e7⟩ := idx t
  blk_simp
  rw [after0_7]
  unfold out0_7
  rw [View.canon_unit_zero hz, View.ld_unit_zero hz, View.ld_unit_zero hz, View.ld_unit_zero hz, View.ld_unit_zero hz, View.ld_unit_zero hz, View.ld_unit_zero hz, View.ld_unit_zero hz]
  refine (pay _ _ _ _ _ _ _ _).trans ?_
  change @Eq EReal _ _
  unfold out pre
  have c1 : (((cfg0.win 7).blk t).view.emb y) 1 = y 1 := Fin.ext (by blk_simp [e7])
  have a0 : ∀ k : Fin 1024, iblk m c 0 t (ix2 (y 0) k) = m ((c : Thread nD τ).loc main_arg0) (ix2 ((((cfg0.win 7).blk t).view.emb y) 0) k) := fun k => by
    blk_simp [iblk]
    refine congrArg (m ((c : Thread nD τ).loc main_arg0)) ?_
    blk_ext [e0, e7]
  have a1 : ∀ k : Fin 1024, iblk m c 1 t (ix2 (y 0) k) = m ((c : Thread nD τ).loc main_arg1) (ix2 ((((cfg0.win 7).blk t).view.emb y) 0) k) := fun k => by
    blk_simp [iblk]
    refine congrArg (m ((c : Thread nD τ).loc main_arg1)) ?_
    blk_ext [e1, e7]
  have a2 : ∀ k : Fin 2048, iblk m c 2 t (ix2 (y 0) k) = m ((c : Thread nD τ).loc main_arg2) (ix2 ((((cfg0.win 7).blk t).view.emb y) 0) k) := fun k => by
    blk_simp [iblk]
    refine congrArg (m ((c : Thread nD τ).loc main_arg2)) ?_
    blk_ext [e2, e7]
  have a3 : ∀ (k : Fin 1024) (l : Fin 2048), iblk m c 3 t (ix2 k l) = m ((c : Thread nD τ).loc main_arg3) (ix2 ⟨k.val, by omega⟩ l) := fun k l => by
    rw [← V_w1 m c]
    blk_simp [iblk]
    refine congrArg (V m c main_v1) ?_
    blk_ext [e3]
  have a4 : ∀ (k : Fin 1024) (l : Fin 2048), iblk m c 4 t (ix2 k l) = m ((c : Thread nD τ).loc main_arg3) (ix2 ⟨1024 + k.val, by omega⟩ l) := fun k l => by
    rw [← V_w2 m c]
    blk_simp [iblk]
    refine congrArg (V m c main_v2) ?_
    blk_ext [e4]
  have a5 : ∀ (l : Fin 2048), iblk m c 5 t (ix2 0 l) = m ((c : Thread nD τ).loc main_arg4) (ix1 l) := fun l => by
    rw [← V_g m c]
    blk_simp [iblk]
    refine congrArg (V m c main_v3) ?_
    blk_ext [e5]
  have a6 : ∀ (l : Fin 2048), iblk m c 6 t (ix2 0 l) = m ((c : Thread nD τ).loc main_arg5) (ix1 l) := fun l => by
    rw [← V_b m c]
    blk_simp [iblk]
    refine congrArg (V m c main_v4) ?_
    blk_ext [e6]
  rw [c1]
  simp only [a0, a1, a2, a3, a4]
  exact congrArg₂ (fun u v => ln _ u v (y 1)) (a5 (y 1)) (a6 (y 1))

end Cert.Kernel3Ideal.OutProj

namespace Cert.Reference3Ideal.OutProj

open Cert.Reference3Ideal Cert.Reference3Ideal.Gen Cert.Norm

/-- All entries before the normalization, as the reference computes them. -/
def rPre (u v : FVec Ideal S32768x1024 .f32) (h : FVec Ideal S32768x2048 .f32) (w : FVec Ideal S2048x2048 .f32) : FVec Ideal S32768x2048 .f32 :=
  addf (mulf (broadcastInDim S32768x2048 ![] bcast_S_S32768x2048 (constant S_ .f32 0x3FD744FD#32)) h)
    (Host.dotGeneral (φ₁ := .f32) dot_S32768x2048_S2048x2048_S32768x2048_1_0_0_1_n_n none
      (concatenate S32768x2048 1 [⟨S32768x1024, u⟩, ⟨S32768x1024, v⟩] concatenates_S32768x1024_S32768x1024_S32768x2048_d1) w)

/-- An entry before the normalization, as the reference computes it. -/
theorem rPre_at (u v : FVec Ideal S32768x1024 .f32) (h : FVec Ideal S32768x2048 .f32) (w : FVec Ideal S2048x2048 .f32) (r : Fin 32768) (c : Fin 2048) :
    rPre u v h w (ix2 r c) = Cert.Kernel3Ideal.OutProj.pre (h (ix2 r c)) (fun k => u (ix2 r k)) (fun k => v (ix2 r k)) (fun k => w (ix2 k c)) := by
  unfold rPre Cert.Kernel3Ideal.OutProj.pre
  pointwise

/-- The reference's term is `out` of its arguments. -/
theorem ref (m : (ℓ : Loc nD τ sig) → Buf (Elt Ideal) ℓ) (c : Dev nD) :
    Value.res_main_v28 m c = Cert.Kernel3Ideal.OutProj.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  have e : Value.res_main_v28 m c = rLn (rPre (m ((c : Thread nD τ).loc main_arg0)) (m ((c : Thread nD τ).loc main_arg1)) (m ((c : Thread nD τ).loc main_arg2))
      (m ((c : Thread nD τ).loc main_arg3))) (m ((c : Thread nD τ).loc main_arg4)) (m ((c : Thread nD τ).loc main_arg5)) := rfl
  rw [e]
  generalize m ((c : Thread nD τ).loc main_arg0) = u, m ((c : Thread nD τ).loc main_arg1) = v, m ((c : Thread nD τ).loc main_arg2) = h,
    m ((c : Thread nD τ).loc main_arg3) = w, m ((c : Thread nD τ).loc main_arg4) = g, m ((c : Thread nD τ).loc main_arg5) = b
  funext y
  change S32768x2048.Idx at y
  idx_vars y
  refine (rLn_at _ _ _ _ _).trans ?_
  simp only [rPre_at]
  rfl

end Cert.Reference3Ideal.OutProj

namespace Cert.OutProj

/-- The kernel's result array is the reference's. -/
theorem algebraic : algebraic_Kernel3Ideal_Reference3Ideal (hKernel3Ideal := Cert.Kernel3Ideal.Gen.facts) (hReference3Ideal := Cert.Reference3Ideal.Gen.facts) := by
  intro m g m' g' _ hagree
  refine ⟨fun c => (Cert.Kernel3Ideal.Gen.dats m 0 c).arrAt 7 Cert.Kernel3Ideal.cfg0.N, Cert.Kernel3Ideal.Value.run_blocks (F := Ideal) m g, ?_⟩
  · refine (θ_run _ _ _).mono (fun r h c => ⟨?_, (h c).2⟩) (Cert.Reference3Ideal.Value.run (F := Ideal) m' g')
    refine (h c).1.trans ((Cert.Reference3Ideal.OutProj.ref m' c).trans ?_)
    obtain ⟨h0, h1, h2, h3, h4, h5⟩ := hagree c
    rw [h0, h1, h2, h3, h4, h5]
    exact (Cert.Kernel3Ideal.OutProj.final m c).symm

end Cert.OutProj

end
-- ==== Proof.Scores.lean ====
/-
  The scores of the product keys: the queries, head by head and half by half, against their keys; the kernel's result
  array and the reference's as one sum of products per entry.
-/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Pipeline.ReadBack
public import Idealize.ShloMosaic.Lib.Pipeline.ValueKit.Geometry
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.Scores

open Cert.Kernel4Ideal Cert.Kernel4Ideal.Gen

variable (m : (ℓ : Loc nD τ sig) → Buf (Elt Ideal) ℓ) (ρ : Dev nD → PrngReg)

/-- One score: half `n % 2` of head `n / 2`, key `i`, row `r`. -/
def score (h : S32768x2048.Idx → EReal) (wq : S2048x2048.Idx → EReal) (keys : S8x2x128x128.Idx → EReal) (n : Fin 16) (i : Fin 128) (r : Fin 32768) : EReal :=
  ∑ k : Fin 128, keys (ix4 ⟨n.val / 2, by omega⟩ ⟨n.val % 2, by omega⟩ i k) * ∑ l : Fin 2048, h (ix2 r l) * wq (ix2 l ⟨128 * n.val + k.val, by omega⟩)

/-- The scores as a function of the arguments. -/
def out (h : S32768x2048.Idx → EReal) (wq : S2048x2048.Idx → EReal) (keys : S8x2x128x128.Idx → EReal) : S16x128x32768.Idx → EReal :=
  fun i => score h wq keys (i 0) (i 1) (i 2)

/-- The offset of a whole matrix. -/
theorem hz : (![0, 0] : Fin 2 → Nat) = fun _ => 0 := funext fun a => by fin_cases a <;> rfl

/-- What the region finds in the arrays the host prepared. -/
theorem V_wq (c : Dev nD) : V m c main_v0 = truncf (F := Ideal) .bf16 (m ((c : Thread nD τ).loc main_arg1)) bitsLt_bf16_f32 := by
  unfold V; after_results_simp
/-- An entry of the keys the host reorders. -/
theorem keys_at (K : FVec Ideal S8x2x128x128 .f32) (n : Fin 16) (i k : Fin 128) :
    truncf (F := Ideal) .bf16 (shapeCast S16x128x128 K shapeCasts_S8x2x128x128_S16x128x128 : FVec Ideal S16x128x128 .f32) bitsLt_bf16_f32 (ix3 n i k)
      = K (ix4 ⟨n.val / 2, by omega⟩ ⟨n.val % 2, by omega⟩ i k) := by
  pointwise
/-- An entry of the keys the region finds. -/
theorem V_keys (c : Dev nD) (n : Fin 16) (i k : Fin 128) :
    V m c main_v2 (ix3 n i k) = m ((c : Thread nD τ).loc main_arg2) (ix4 ⟨n.val / 2, by omega⟩ ⟨n.val % 2, by omega⟩ i k) := by
  have e : V m c main_v2 = truncf (F := Ideal) .bf16 (shapeCast S16x128x128 (m ((c : Thread nD τ).loc main_arg2)) shapeCasts_S8x2x128x128_S16x128x128) bitsLt_bf16_f32 := by
    unfold V; after_results_simp <;> rfl
  rw [e]
  exact keys_at _ n i k

/-- Where the windows stand at a grid point. -/
theorem idx (t : Fin cfg0.N) : win0_0.index t = ![t.val, 0] ∧ win0_1.index t = ![0, 0] ∧ win0_2.index t = ![0, 0, 0] ∧ win0_3.index t = ![0, 0, t.val] :=
  (by decide +kernel : ∀ t : Fin grid0.N, win0_0.index t = ![t.val, 0] ∧ win0_1.index t = ![0, 0] ∧ win0_2.index t = ![0, 0, 0] ∧ win0_3.index t = ![0, 0, t.val]) t

/-- One half of a head: its keys against its 128 columns of the queries. -/
def head (n : Nat) (hs : S256x2048.Slices ![0, 128 * n] S256x128) (q : FVec Ideal S256x2048 .f32) (kb : Vec Ideal S1x128x128 .bf16) : FVec Ideal S1x128x256 .f32 :=
  shapeCast S1x128x256 (matmul dot_S128x128_S256x128_S128x256_1_1_0_0_n_n none (shapeCast S128x128 kb shapeCasts_S1x128x128_S128x128 : FVec Ideal S128x128 .bf16)
    (truncf .bf16 (extractStridedSlice S256x128 ![0, 128 * n] q hs) bitsLt_bf16_f32) (constant S128x256 .f32 0x00000000#32)) shapeCasts_S128x256_S1x128x256

/-- An entry of one slab of scores. -/
theorem head_at (n : Nat) (hs : S256x2048.Slices ![0, 128 * n] S256x128) (hn : n < 16) (q : FVec Ideal S256x2048 .f32) (kb : Vec Ideal S1x128x128 .bf16) (z : Fin 1) (i : Fin 128) (r : Fin 256) :
    head n hs q kb (ix3 z i r) = ∑ k : Fin 128, kb (ix3 0 i k) * q (ix2 r ⟨128 * n + k.val, by omega⟩) := by
  unfold head
  pointwise

/-- The block a body leaves, entry by entry. -/
def blk (q : FVec Ideal S256x2048 .f32) (keys : Vec Ideal S16x128x128 .bf16) : S16x128x256.Idx → EReal :=
  fun y => ∑ k : Fin 128, keys (ix3 (y 0) (y 1) k) * q (ix2 (y 2) ⟨128 * (y 0).val + k.val, by have := (y 0).isLt; change (y 0).val < 16 at this; omega⟩)

/-- One store of the body is a block of `blk`. -/
theorem piece (n : Nat) (hn : n < 16) (hs : S256x2048.Slices ![0, 128 * n] S256x128) (inb : ∀ a, (![n, 0, 0] : Fin 3 → Nat) a + S1x128x128.size a ≤ S16x128x128.size a)
    (inb' : ∀ a, (![n, 0, 0] : Fin 3 → Nat) a + S1x128x256.size a ≤ S16x128x256.size a)
    (q : FVec Ideal S256x2048 .f32) (keys : Vec Ideal S16x128x128 .bf16) (x : S1x128x256.Idx) :
    head n hs q (View.ld keys (Rect.unit (s := S16x128x128) ![n, 0, 0] S1x128x128.size inb)) x
      = blk q keys ((Rect.unit (s := S16x128x256) ![n, 0, 0] S1x128x256.size inb').emb x) := by
  idx_vars x
  refine (head_at n hs hn _ _ _ _ _).trans ?_
  unfold blk
  refine Finset.sum_congr rfl fun k _ => congrArg₂ (fun u v : EReal => u * v) (congrArg keys ?_) (congrArg q ?_)
  · change (Rect.unit (s := S16x128x128) ![n, 0, 0] S1x128x128.size inb).emb (ix3 0 x1 k) = _
    blk_ext []
  · blk_ext []

/-- The sixteen stores of a body leave `blk`. -/
theorem out_eq (x0 : Vec Ideal S256x2048 .f32) (x1 : Vec Ideal S2048x2048 .bf16) (x2 : Vec Ideal S16x128x128 .bf16) :
    out0_3 x0 x1 x2 = blk (k0_pay3 x0 x1) x2 := by
  unfold out0_3 k0_pay22
  rw [View.ld_unit_zero hz, View.ld_unit_zero hz]
  funext y
  refine View.canon_apply_of_pieces (Val := Elt Ideal) (e := .f32) (blk (k0_pay3 x0 x1) x2) _ (View.PiecesOf.mem ?_) y (cover0_3 _ _ _ _ _ _ _ _ _ _ _ _ _ _ _ _ y)
  exact
    ⟨piece 15 (by decide) _ _ (by decide) _ _, piece 14 (by decide) _ _ (by decide) _ _, piece 13 (by decide) _ _ (by decide) _ _, piece 12 (by decide) _ _ (by decide) _ _,
     piece 11 (by decide) _ _ (by decide) _ _, piece 10 (by decide) _ _ (by decide) _ _, piece 9 (by decide) _ _ (by decide) _ _, piece 8 (by decide) _ _ (by decide) _ _,
     piece 7 (by decide) _ _ (by decide) _ _, piece 6 (by decide) _ _ (by decide) _ _, piece 5 (by decide) _ _ (by decide) _ _, piece 4 (by decide) _ _ (by decide) _ _,
     piece 3 (by decide) slices_S256x2048_o0_384_S256x128 _ (by decide) _ _, piece 2 (by decide) _ _ (by decide) _ _, piece 1 (by decide) _ _ (by decide) _ _, piece 0 (by decide) _ _ (by decide) _ _, trivial⟩

/-- The queries of a block of rows. -/
theorem pay3_at (x : Vec Ideal S256x2048 .f32) (w : Vec Ideal S2048x2048 .bf16) (r : Fin 256) (c : Fin 2048) :
    k0_pay3 x w (ix2 r c) = ∑ l : Fin 2048, x (ix2 r l) * w (ix2 l c) := by
  unfold k0_pay3
  pointwise

/-- The result array ends holding the scores. -/
theorem final (c : Dev nD) : (dats m 0 c).arrAt 3 cfg0.N = out (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := idx t
  blk_simp
  rw [after0_3, out_eq]
  change @Eq EReal _ _
  unfold out
  have a0 : ∀ k : Fin 2048, iblk m c 0 t (ix2 (y 2) k) = m ((c : Thread nD τ).loc main_arg0) (ix2 ((((cfg0.win 3).blk t).view.emb y) 2) k) := fun k => by
    blk_simp [iblk]
    refine congrArg (m ((c : Thread nD τ).loc main_arg0)) ?_
    blk_ext [e0, e3]
  have a1 : ∀ (k l : Fin 2048), iblk m c 1 t (ix2 k l) = m ((c : Thread nD τ).loc main_arg1) (ix2 k l) := fun k l => by
    blk_simp [iblk]
    rw [V_wq]
    refine congrArg (m ((c : Thread nD τ).loc main_arg1)) ?_
    blk_ext [e1]
  have a2 : ∀ (n : Fin 16) (i k : Fin 128), iblk m c 2 t (ix3 n i k) = m ((c : Thread nD τ).loc main_arg2) (ix4 ⟨n.val / 2, by omega⟩ ⟨n.val % 2, by omega⟩ i k) := fun n i k => by
    rw [← V_keys m c]
    blk_simp [iblk]
    refine congrArg (V m c main_v2) ?_
    blk_ext [e2]
  have c0 : (((cfg0.win 3).blk t).view.emb y) 0 = y 0 := Fin.ext (by blk_simp [e3])
  have c1 : (((cfg0.win 3).blk t).view.emb y) 1 = y 1 := Fin.ext (by blk_simp [e3])
  rw [c0, c1]
  unfold blk score
  refine Finset.sum_congr rfl fun k _ => congrArg₂ (fun u v : EReal => u * v) (a2 (y 0) (y 1) k) ((pay3_at _ _ (y 2) _).trans (Finset.sum_congr rfl fun l _ => ?_))
  exact congrArg₂ (fun u v : EReal => u * v) (a0 l) (a1 l _)

end Cert.Kernel4Ideal.Scores

namespace Cert.Reference4Ideal.Scores

open Cert.Reference4Ideal Cert.Reference4Ideal.Gen

/-- The reference's term is `out` of its arguments. -/
theorem ref (h : FVec Ideal S32768x2048 .f32) (wq : FVec Ideal S2048x2048 .f32) (keys : FVec Ideal S8x2x128x128 .f32) :
    shapeCast S16x128x32768 (transpose S8x2x128x32768 [1, 2, 3, 0] (transpose S32768x8x2x128 [3, 0, 1, 2] (Host.dotGeneral dot_S8x2x128x128_S32768x8x2x128_S8x2x128x32768_3_3_2_0_01_12 none keys
      (shapeCast S32768x8x2x128 (Host.dotGeneral dot_S32768x2048_S2048x2048_S32768x2048_1_0_0_1_n_n none h wq) shapeCasts_S32768x2048_S32768x8x2x128 : FVec Ideal S32768x8x2x128 .f32)) transposes_S8x2x128x32768_S32768x8x2x128_3_0_1_2) transposes_S32768x8x2x128_S8x2x128x32768_1_2_3_0) shapeCasts_S8x2x128x32768_S16x128x32768
     = Cert.Kernel4Ideal.Scores.out h wq keys := by
  funext y
  idx_vars y
  unfold Cert.Kernel4Ideal.Scores.out Cert.Kernel4Ideal.Scores.score
  pointwise
  refine Finset.sum_congr rfl fun k _ => congrArg _ (Finset.sum_congr rfl fun l _ => congrArg (fun z => h (ix2 y2 l) * wq (ix2 l z)) (Fin.ext ?_))
  show y0.val / 2 * 256 + y0.val % 2 * 128 + k.val = 128 * y0.val + k.val
  omega

end Cert.Reference4Ideal.Scores

namespace Cert.Scores

/-- The kernel's result array is the reference's. -/
theorem algebraic : algebraic_Kernel4Ideal_Reference4Ideal (hKernel4Ideal := Cert.Kernel4Ideal.Gen.facts) (hReference4Ideal := Cert.Reference4Ideal.Gen.facts) := by
  intro m g m' g' _ hagree
  refine ⟨fun c => (Cert.Kernel4Ideal.Gen.dats m 0 c).arrAt 3 Cert.Kernel4Ideal.cfg0.N, Cert.Kernel4Ideal.Value.run_blocks (F := Ideal) m g, ?_⟩
  · refine (θ_run _ _ _).mono (fun r h c => ⟨?_, (h c).2⟩) (Cert.Reference4Ideal.Value.run (F := Ideal) m' g')
    refine (h c).1.trans ((Cert.Reference4Ideal.Scores.ref _ _ _).trans ?_)
    obtain ⟨h0, h1, h2⟩ := hagree c
    rw [h0, h1, h2]
    exact (Cert.Kernel4Ideal.Scores.final m c).symm

end Cert.Scores

end
-- ==== Proof.Ple.lean ====
/-
  The gated per-layer embedding with its residual and normalization: the kernel's result array and the reference's, both
  as one function of the row.
-/
module

public import proofs.«01_k».proof.Proof.Norm
public import Idealize.ShloMosaic.Lib.Pipeline.ValueKit.Geometry
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.Ple

open Cert.Kernel5Ideal Cert.Kernel5Ideal.Gen Cert.Norm

variable (m : (ℓ : Loc nD τ sig) → Buf (Elt Ideal) ℓ) (ρ : Dev nD → PrngReg)

/-- An entry before the normalization: the residual, the feed-forward's output and the gated embedding. -/
def pre (h f : EReal) (hr : Fin 2048 → EReal) (pr : Fin 256 → EReal) (wg : Fin 2048 → EReal) (wp : Fin 256 → EReal) : EReal :=
  Ideal.ofBits (FTy.f32) 0x3FD744FD#32 * h + f
    + Ideal.div (Ideal.ofBits (FTy.f32) 0x3F800000#32) (Ideal.ofBits (FTy.f32) 0x3F800000#32 + Ideal.exp (-(∑ k, hr k * wg k))) * (∑ k, pr k * wp k)

/-- The result array as a function of the arguments. -/
def out (h f : S32768x2048.Idx → EReal) (p : S32768x256.Idx → EReal) (wg : S2048x2048.Idx → EReal) (wp : S256x2048.Idx → EReal) (g b : S2048.Idx → EReal) :
    S32768x2048.Idx → EReal :=
  fun i => ln (fun c => pre (h (ix2 (i 0) c)) (f (ix2 (i 0) c)) (fun k => h (ix2 (i 0) k)) (fun k => p (ix2 (i 0) k)) (fun k => wg (ix2 k c)) (fun k => wp (ix2 k c)))
    (g (ix1 (i 1))) (b (ix1 (i 1))) (i 1)

/-- The offset of a whole matrix. -/
theorem hz : (![0, 0] : Fin 2 → Nat) = fun _ => 0 := funext fun a => by fin_cases a <;> rfl

/-- What the region finds in the arrays the host prepared. -/
theorem V_wg (c : Dev nD) : V m c main_v0 = truncf (F := Ideal) .bf16 (m ((c : Thread nD τ).loc main_arg3)) bitsLt_bf16_f32 := by
  unfold V; after_results_simp
/-- The weights of the embedding. -/
theorem V_wp (c : Dev nD) : V m c main_v1 = truncf (F := Ideal) .bf16 (m ((c : Thread nD τ).loc main_arg4)) bitsLt_bf16_f32 := by
  unfold V; after_results_simp
/-- The row of scales. -/
theorem V_g (c : Dev nD) (k : Fin 2048) : V m c main_v2 (ix2 0 k) = m ((c : Thread nD τ).loc main_arg5) (ix1 k) := by
  have e : V m c main_v2 = shapeCast S1x2048 (m ((c : Thread nD τ).loc main_arg5)) shapeCasts_S2048_S1x2048 := by
    unfold V; after_results_simp <;> rfl
  rw [e]
  pointwise
/-- The row of shifts. -/
theorem V_b (c : Dev nD) (k : Fin 2048) : V m c main_v3 (ix2 0 k) = m ((c : Thread nD τ).loc main_arg6) (ix1 k) := by
  have e : V m c main_v3 = shapeCast S1x2048 (m ((c : Thread nD τ).loc main_arg6)) shapeCasts_S2048_S1x2048 := by
    unfold V; after_results_simp <;> rfl
  rw [e]
  pointwise

/-- Where the windows stand at a grid point. -/
theorem idx (t : Fin cfg0.N) : win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![t.val, 0]) t

/-- A block's entries before the normalization, as the kernel computes them. -/
def kPre (h : Vec Ideal S256x2048 .f32) (wg : Vec Ideal S2048x2048 .bf16) (p : Vec Ideal S256x256 .f32) (wp : Vec Ideal S256x2048 .bf16) (f : Vec Ideal S256x2048 .f32) :
    FVec Ideal S256x2048 .f32 :=
  addf (addf (mulf (broadcast S256x2048 (Scalar.ofBits .f32 0x3FD744FD#32)) h) f)
    (mulf (divf (broadcast S256x2048 (Scalar.ofBits .f32 0x3F800000#32)) (addf (broadcast S256x2048 (Scalar.ofBits .f32 0x3F800000#32))
      (exp (subf (broadcast S256x2048 (Scalar.ofBits .f32 0x00000000#32))
        (matmul dot_S256x2048_S2048x2048_S256x2048_1_0_0_1_n_n none (truncf .bf16 h bitsLt_bf16_f32) (shapeCast S2048x2048 wg shapeCasts_S2048x2048_S2048x2048 : FVec Ideal S2048x2048 .bf16) (constant S256x2048 .f32 0x00000000#32))))))
      (matmul dot_S256x256_S256x2048_S256x2048_1_0_0_1_n_n none (truncf .bf16 p bitsLt_bf16_f32) (shapeCast S256x2048 wp shapeCasts_S256x2048_S256x2048 : FVec Ideal S256x2048 .bf16) (constant S256x2048 .f32 0x00000000#32)))

/-- An entry of a block before the normalization, as the kernel computes it. -/
theorem kPre_at (h : Vec Ideal S256x2048 .f32) (wg : Vec Ideal S2048x2048 .bf16) (p : Vec Ideal S256x256 .f32) (wp : Vec Ideal S256x2048 .bf16) (f : Vec Ideal S256x2048 .f32)
    (r : Fin 256) (c : Fin 2048) :
    kPre h wg p wp f (ix2 r c) = pre (h (ix2 r c)) (f (ix2 r c)) (fun k => h (ix2 r k)) (fun k => p (ix2 r k)) (fun k => wg (ix2 k c)) (fun k => wp (ix2 k c)) := by
  unfold kPre pre
  pointwise
  rw [zero_sub]

/-- The body's stored block is the normalization of those entries. -/
theorem pay (h : Vec Ideal S256x2048 .f32) (wg : Vec Ideal S2048x2048 .bf16) (p : Vec Ideal S256x256 .f32) (wp : Vec Ideal S256x2048 .bf16) (f : Vec Ideal S256x2048 .f32)
    (g b : Vec Ideal S1x2048 .f32) (y : S256x2048.Idx) :
    k0_pay1 (k0_pay2 g) (k0_pay3 b) (k0_pay4 h wg p wp f) (k0_pay5 h wg p wp f) y
      = ln (fun c => pre (h (ix2 (y 0) c)) (f (ix2 (y 0) c)) (fun k => h (ix2 (y 0) k)) (fun k => p (ix2 (y 0) k)) (fun k => wg (ix2 k c)) (fun k => wp (ix2 k c)))
        (g (ix2 0 (y 1))) (b (ix2 0 (y 1))) (y 1) := by
  have e : k0_pay1 (k0_pay2 g) (k0_pay3 b) (k0_pay4 h wg p wp f) (k0_pay5 h wg p wp f) = kLn (kPre h wg p wp f) (k0_pay2 g) (k0_pay3 b) := rfl
  rw [e]
  idx_vars y
  rw [kLn_at]
  unfold k0_pay2 k0_pay3
  pointwise [kPre_at]

/-- The result array ends holding `out` of the arguments. -/
theorem final (c : Dev nD) : (dats m 0 c).arrAt 7 cfg0.N = out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨e0, e1, e2, e3, e4, e5, e6, e7⟩ := idx t
  blk_simp
  rw [after0_7]
  unfold out0_7
  rw [View.canon_unit_zero hz, View.ld_unit_zero hz, View.ld_unit_zero hz, View.ld_unit_zero hz, View.ld_unit_zero hz, View.ld_unit_zero hz, View.ld_unit_zero hz, View.ld_unit_zero hz]
  refine (pay _ _ _ _ _ _ _ _).trans ?_
  change @Eq EReal _ _
  unfold out
  have c1 : (((cfg0.win 7).blk t).view.emb y) 1 = y 1 := Fin.ext (by blk_simp [e7])
  have a0 : ∀ k : Fin 2048, iblk m c 0 t (ix2 (y 0) k) = m ((c : Thread nD τ).loc main_arg0) (ix2 ((((cfg0.win 7).blk t).view.emb y) 0) k) := fun k => by
    blk_simp [iblk]
    refine congrArg (m ((c : Thread nD τ).loc main_arg0)) ?_
    blk_ext [e0, e7]
  have a1 : ∀ k : Fin 2048, iblk m c 1 t (ix2 (y 0) k) = m ((c : Thread nD τ).loc main_arg1) (ix2 ((((cfg0.win 7).blk t).view.emb y) 0) k) := fun k => by
    blk_simp [iblk]
    refine congrArg (m ((c : Thread nD τ).loc main_arg1)) ?_
    blk_ext [e1, e7]
  have a2 : ∀ k : Fin 256, iblk m c 2 t (ix2 (y 0) k) = m ((c : Thread nD τ).loc main_arg2) (ix2 ((((cfg0.win 7).blk t).view.emb y) 0) k) := fun k => by
    blk_simp [iblk]
    refine congrArg (m ((c : Thread nD τ).loc main_arg2)) ?_
    blk_ext [e2, e7]
  have a3 : ∀ (k l : Fin 2048), iblk m c 3 t (ix2 k l) = m ((c : Thread nD τ).loc main_arg3) (ix2 k l) := fun k l => by
    blk_simp [iblk]
    rw [V_wg]
    refine congrArg (m ((c : Thread nD τ).loc main_arg3)) ?_
    blk_ext [e3]
  have a4 : ∀ (k : Fin 256) (l : Fin 2048), iblk m c 4 t (ix2 k l) = m ((c : Thread nD τ).loc main_arg4) (ix2 k l) := fun k l => by
    blk_simp [iblk]
    rw [V_wp]
    refine congrArg (m ((c : Thread nD τ).loc main_arg4)) ?_
    blk_ext [e4]
  have a5 : ∀ (l : Fin 2048), iblk m c 5 t (ix2 0 l) = m ((c : Thread nD τ).loc main_arg5) (ix1 l) := fun l => by
    rw [← V_g m c]
    blk_simp [iblk]
    refine congrArg (V m c main_v2) ?_
    blk_ext [e5]
  have a6 : ∀ (l : Fin 2048), iblk m c 6 t (ix2 0 l) = m ((c : Thread nD τ).loc main_arg6) (ix1 l) := fun l => by
    rw [← V_b m c]
    blk_simp [iblk]
    refine congrArg (V m c main_v3) ?_
    blk_ext [e6]
  rw [c1]
  simp only [a0, a1, a2, a3, a4]
  exact congrArg₂ (fun u v => ln _ u v (y 1)) (a5 (y 1)) (a6 (y 1))

end Cert.Kernel5Ideal.Ple

namespace Cert.Reference5Ideal.Ple

open Cert.Reference5Ideal Cert.Reference5Ideal.Gen Cert.Norm

/-- All entries before the normalization, as the reference computes them. -/
def rPre (h f : FVec Ideal S32768x2048 .f32) (p : FVec Ideal S32768x256 .f32) (wg : FVec Ideal S2048x2048 .f32) (wp : FVec Ideal S256x2048 .f32) : FVec Ideal S32768x2048 .f32 :=
  addf (addf (mulf (broadcastInDim S32768x2048 ![] bcast_S_S32768x2048 (constant S_ .f32 0x3FD744FD#32)) h) f)
    (mulf (Host.divf (broadcastInDim S32768x2048 ![] bcast_S_S32768x2048 (constant S_ .f32 0x3F800000#32)) (addf (broadcastInDim S32768x2048 ![] bcast_S_S32768x2048 (constant S_ .f32 0x3F800000#32))
      (Host.exp (Host.negf (Host.dotGeneral dot_S32768x2048_S2048x2048_S32768x2048_1_0_0_1_n_n none h wg)))))
      (Host.dotGeneral dot_S32768x256_S256x2048_S32768x2048_1_0_0_1_n_n none p wp))

/-- An entry before the normalization, as the reference computes it. -/
theorem rPre_at (h f : FVec Ideal S32768x2048 .f32) (p : FVec Ideal S32768x256 .f32) (wg : FVec Ideal S2048x2048 .f32) (wp : FVec Ideal S256x2048 .f32) (r : Fin 32768) (c : Fin 2048) :
    rPre h f p wg wp (ix2 r c) = Cert.Kernel5Ideal.Ple.pre (h (ix2 r c)) (f (ix2 r c)) (fun k => h (ix2 r k)) (fun k => p (ix2 r k)) (fun k => wg (ix2 k c)) (fun k => wp (ix2 k c)) := by
  unfold rPre Cert.Kernel5Ideal.Ple.pre
  pointwise

/-- The reference's term is `out` of its arguments. -/
theorem ref (m : (ℓ : Loc nD τ sig) → Buf (Elt Ideal) ℓ) (c : Dev nD) :
    Value.res_main_v36 m c = Cert.Kernel5Ideal.Ple.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  have e : Value.res_main_v36 m c = rLn (rPre (m ((c : Thread nD τ).loc main_arg0)) (m ((c : Thread nD τ).loc main_arg1)) (m ((c : Thread nD τ).loc main_arg2))
      (m ((c : Thread nD τ).loc main_arg3)) (m ((c : Thread nD τ).loc main_arg4))) (m ((c : Thread nD τ).loc main_arg5)) (m ((c : Thread nD τ).loc main_arg6)) := rfl
  rw [e]
  generalize m ((c : Thread nD τ).loc main_arg0) = h, m ((c : Thread nD τ).loc main_arg1) = f, m ((c : Thread nD τ).loc main_arg2) = p,
    m ((c : Thread nD τ).loc main_arg3) = wg, m ((c : Thread nD τ).loc main_arg4) = wp, m ((c : Thread nD τ).loc main_arg5) = g, m ((c : Thread nD τ).loc main_arg6) = b
  funext y
  change S32768x2048.Idx at y
  idx_vars y
  refine (rLn_at _ _ _ _ _).trans ?_
  simp only [rPre_at]
  rfl

end Cert.Reference5Ideal.Ple

namespace Cert.Ple

/-- The kernel's result array is the reference's. -/
theorem algebraic : algebraic_Kernel5Ideal_Reference5Ideal (hKernel5Ideal := Cert.Kernel5Ideal.Gen.facts) (hReference5Ideal := Cert.Reference5Ideal.Gen.facts) := by
  intro m g m' g' _ hagree
  refine ⟨fun c => (Cert.Kernel5Ideal.Gen.dats m 0 c).arrAt 7 Cert.Kernel5Ideal.cfg0.N, Cert.Kernel5Ideal.Value.run_blocks (F := Ideal) m g, ?_⟩
  · refine (θ_run _ _ _).mono (fun r h c => ⟨?_, (h c).2⟩) (Cert.Reference5Ideal.Value.run (F := Ideal) m' g')
    refine (h c).1.trans ((Cert.Reference5Ideal.Ple.ref m' c).trans ?_)
    obtain ⟨h0, h1, h2, h3, h4, h5, h6⟩ := hagree c
    rw [h0, h1, h2, h3, h4, h5, h6]
    exact (Cert.Kernel5Ideal.Ple.final m c).symm

end Cert.Ple

end
-- ==== Proof.DtProj.lean ====
/-
  The projection to the steps: the kernel's result array and the reference's, both as one sum of products per entry.
-/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Quiescent
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Kernel6Ideal.DtProj

open Cert.Kernel6Ideal Cert.Kernel6Ideal.Gen

variable (m : (ℓ : Loc nD τ sig) → Buf (Elt Ideal) ℓ) (ρ : Dev nD → PrngReg)

/-- The last 16 columns of `w`, with columns of zeros after them. -/
def cols (w : FVec Ideal S2048x4624 .f32) : FVec Ideal S2048x128 .f32 :=
  pad S2048x128 ![0, 0] ![0, 112] ![0, 0] (extractStridedSlice S2048x16 ![0, 4608] w slices_S2048x4624_S2048x16_0_4608)
    (sitofp .f32 (constantI S_ 32 0#32)) pads_S2048x16_S2048x128_000_01120 h_S_

/-- The projection of the rows of `x` through those columns, entry by entry. -/
def proj (x : S32768x2048.Idx → EReal) (w : FVec Ideal S2048x4624 .f32) : S32768x128.Idx → EReal :=
  fun i => ∑ k : Fin 2048, x (ix2 (i 0) k) * cols w (ix2 k (i 1))

/-- The offset of a whole matrix. -/
theorem hz : (![0, 0] : Fin 2 → Nat) = fun _ => 0 := funext fun a => by fin_cases a <;> rfl

/-- The weights the region finds. -/
theorem V_w (c : Dev nD) : V m c main_v2 = truncf (F := Ideal) .bf16 (cols (m ((c : Thread nD τ).loc main_arg1))) bitsLt_bf16_f32 := by
  unfold V
  simp only [List.flatten_cons, List.flatten_nil, List.cons_append, List.nil_append]
  after_results
  rfl

/-- Where the three windows stand at a grid point. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- One body of the kernel: the block's product, entry by entry. -/
theorem pay (x : Vec Ideal S512x2048 .f32) (w : Vec Ideal S2048x128 .bf16) (y : S512x128.Idx) :
    k0_pay1 x w y = ∑ k : Fin 2048, x (ix2 (y 0) k) * w (ix2 k (y 1)) := by
  idx_vars y
  unfold k0_pay1
  pointwise

/-- The result array ends holding the projection. -/
theorem final (c : Dev nD) : (dats m 0 c).arrAt 2 cfg0.N = proj (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  unfold out0_2
  rw [View.canon_unit_zero hz, View.ld_unit_zero hz, View.ld_unit_zero hz]
  refine (pay _ _ _).trans ?_
  change @Eq EReal _ _
  unfold proj
  refine Finset.sum_congr rfl fun k _ => ?_
  congr 1
  · blk_simp [iblk]
    refine congrArg (m ((c : Thread nD τ).loc main_arg0)) ?_
    blk_ext [e0, e2]
  · blk_simp [iblk]
    rw [V_w]
    refine congrArg (cols (m ((c : Thread nD τ).loc main_arg1))) ?_
    blk_ext [e1, e2]

end Cert.Kernel6Ideal.DtProj

namespace Cert.Reference6Ideal.DtProj

open Cert.Reference6Ideal Cert.Reference6Ideal.Gen

/-- The reference's term, entry by entry. -/
theorem ref (x : FVec Ideal S32768x2048 .f32) (w : FVec Ideal S2048x4624 .f32) :
    Host.dotGeneral (F := Ideal) dot_S32768x2048_S2048x128_S32768x128_1_0_0_1_n_n none x (Cert.Kernel6Ideal.DtProj.cols w)
      = Cert.Kernel6Ideal.DtProj.proj x w := by
  funext y
  unfold Cert.Kernel6Ideal.DtProj.proj
  generalize Cert.Kernel6Ideal.DtProj.cols w = v
  idx_vars y
  pointwise

end Cert.Reference6Ideal.DtProj

namespace Cert.DtProj

/-- The kernel's result array is the reference's. -/
theorem algebraic : algebraic_Kernel6Ideal_Reference6Ideal (hKernel6Ideal := Cert.Kernel6Ideal.Gen.facts) (hReference6Ideal := Cert.Reference6Ideal.Gen.facts) := by
  intro m g m' g' _ hagree
  refine ⟨fun c => Cert.Kernel6Ideal.DtProj.proj (m (c.tc.loc Cert.Kernel6Ideal.main_arg0)) (m (c.tc.loc Cert.Kernel6Ideal.main_arg1)), ?_, ?_⟩
  · exact (θ_run _ _ _).mono (fun r h c => ⟨(h c).1.trans (Cert.Kernel6Ideal.DtProj.final m c), (h c).2⟩) (Cert.Kernel6Ideal.Value.run_blocks (F := Ideal) m g)
  · refine (θ_run _ _ _).mono (fun r h c => ⟨?_, (h c).2⟩) (Cert.Reference6Ideal.Value.run (F := Ideal) m' g')
    refine (h c).1.trans ((Cert.Reference6Ideal.DtProj.ref _ _).trans ?_)
    rw [(hagree c).1, (hagree c).2]

end Cert.DtProj

end
-- ==== Proof.LnIn.lean ====
/-
  The normalization of the input: the kernel's result array and the reference's, both as one function of the row.
-/
module

public import proofs.«01_k».proof.Proof.Norm
public import proofs.«01_k».proof.Proof.Gen.Kernel7Ideal.Value
public import proofs.«01_k».proof.Proof.Gen.Reference7Ideal.Run
public import Idealize.ShloMosaic.Lib.Pipeline.ValueKit.Geometry
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.LnIn

open Cert.Kernel7Ideal Cert.Kernel7Ideal.Gen Cert.Norm

variable (m : (ℓ : Loc nD τ sig) → Buf (Elt Ideal) ℓ) (ρ : Dev nD → PrngReg)

/-- The result array as a function of the arguments. -/
def out (x : S32768x2048.Idx → EReal) (g b : S2048.Idx → EReal) : S32768x2048.Idx → EReal :=
  fun i => ln (fun c => x (ix2 (i 0) c)) (g (ix1 (i 1))) (b (ix1 (i 1))) (i 1)

/-- The offset of a whole matrix. -/
theorem hz : (![0, 0] : Fin 2 → Nat) = fun _ => 0 := funext fun a => by fin_cases a <;> rfl

/-- What the region finds in the row of scales. -/
theorem V_g (c : Dev nD) (k : Fin 2048) : V m c main_v0 (ix2 0 k) = m ((c : Thread nD τ).loc main_arg1) (ix1 k) := by
  have e : V m c main_v0 = shapeCast S1x2048 (m ((c : Thread nD τ).loc main_arg1)) shapeCasts_S2048_S1x2048 := by
    unfold V; after_results_simp <;> rfl
  rw [e]
  pointwise
/-- What the region finds in the row of shifts. -/
theorem V_b (c : Dev nD) (k : Fin 2048) : V m c main_v1 (ix2 0 k) = m ((c : Thread nD τ).loc main_arg2) (ix1 k) := by
  have e : V m c main_v1 = shapeCast S1x2048 (m ((c : Thread nD τ).loc main_arg2)) shapeCasts_S2048_S1x2048 := by
    unfold V; after_results_simp <;> rfl
  rw [e]
  pointwise

/-- Where the windows stand at a grid point. -/
theorem idx (t : Fin cfg0.N) : win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0]) t

/-- The body's stored block is the normalization of the block it reads. -/
theorem pay (x : Vec Ideal S256x2048 .f32) (g b : Vec Ideal S1x2048 .f32) (y : S256x2048.Idx) :
    k0_pay1 x g b y = ln (fun c => x (ix2 (y 0) c)) (g (ix2 0 (y 1))) (b (ix2 0 (y 1))) (y 1) := by
  have e : k0_pay1 x g b = kLn x (shapeCast S1x2048 g shapeCasts_S1x2048_S1x2048) (shapeCast S1x2048 b shapeCasts_S1x2048_S1x2048) := rfl
  rw [e, shapeCast_self, shapeCast_self]
  idx_vars y
  exact kLn_at _ _ _ _ _

/-- The result array ends holding `out` of the arguments. -/
theorem final (c : Dev nD) : (dats m 0 c).arrAt 3 cfg0.N = out (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := idx t
  blk_simp
  rw [after0_3]
  unfold out0_3
  rw [View.canon_unit_zero hz, View.ld_unit_zero hz, View.ld_unit_zero hz, View.ld_unit_zero hz]
  refine (pay _ _ _ _).trans ?_
  change @Eq EReal _ _
  unfold out
  have c1 : (((cfg0.win 3).blk t).view.emb y) 1 = y 1 := Fin.ext (by blk_simp [e3])
  have a0 : ∀ k : Fin 2048, iblk m c 0 t (ix2 (y 0) k) = m ((c : Thread nD τ).loc main_arg0) (ix2 ((((cfg0.win 3).blk t).view.emb y) 0) k) := fun k => by
    blk_simp [iblk]
    refine congrArg (m ((c : Thread nD τ).loc main_arg0)) ?_
    blk_ext [e0, e3]
  have a1 : ∀ (l : Fin 2048), iblk m c 1 t (ix2 0 l) = m ((c : Thread nD τ).loc main_arg1) (ix1 l) := fun l => by
    rw [← V_g m c]
    blk_simp [iblk]
    refine congrArg (V m c main_v0) ?_
    blk_ext [e1]
  have a2 : ∀ (l : Fin 2048), iblk m c 2 t (ix2 0 l) = m ((c : Thread nD τ).loc main_arg2) (ix1 l) := fun l => by
    rw [← V_b m c]
    blk_simp [iblk]
    refine congrArg (V m c main_v1) ?_
    blk_ext [e2]
  rw [c1]
  simp only [a0]
  exact congrArg₂ (fun u v => ln _ u v (y 1)) (a1 (y 1)) (a2 (y 1))

end Cert.Kernel7Ideal.LnIn

namespace Cert.Reference7Ideal.LnIn

open Cert.Reference7Ideal Cert.Reference7Ideal.Gen Cert.Norm

/-- The reference's normalization of all rows is `out`. -/
theorem ref (x : FVec Ideal S32768x2048 .f32) (g b : FVec Ideal S2048 .f32) : rLn x g b = Cert.Kernel7Ideal.LnIn.out x g b := by
  funext y
  change S32768x2048.Idx at y
  idx_vars y
  exact rLn_at _ _ _ _ _

end Cert.Reference7Ideal.LnIn

namespace Cert.LnIn

/-- The kernel's result array is the reference's. -/
theorem algebraic : algebraic_Kernel7Ideal_Reference7Ideal (hKernel7Ideal := Cert.Kernel7Ideal.Gen.facts) (hReference7Ideal := Cert.Reference7Ideal.Gen.facts) := by
  intro m g m' g' _ hagree
  refine ⟨fun c => (Cert.Kernel7Ideal.Gen.dats m 0 c).arrAt 3 Cert.Kernel7Ideal.cfg0.N, Cert.Kernel7Ideal.Value.run_blocks (F := Ideal) m g, ?_⟩
  · refine (θ_run _ _ _).mono (fun r h c => ⟨?_, (h c).2⟩) (Cert.Reference7Ideal.Value.run (F := Ideal) m' g')
    refine (h c).1.trans ((Cert.Reference7Ideal.LnIn.ref _ _ _).trans ?_)
    obtain ⟨h0, h1, h2⟩ := hagree c
    rw [h0, h1, h2]
    exact (Cert.Kernel7Ideal.LnIn.final m c).symm

end Cert.LnIn

end
-- ==== Proof.lean ====
/-
  The claims about the seven calls: the frames of the programs, from their runs, and the values, from the modules of the calls.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ssd
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.InProj
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.OutProj
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Scores
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Ple
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.DtProj
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.LnIn
public import Idealize.ShloMosaic.Lib.Quiescent
public import Idealize.ShloMosaic.Adequacy
public import Idealize.ShloMosaic.Init

@[expose] public section

noncomputable section

namespace Cert.Proof

open Idealize.ShloMosaic Idealize.SL.Sem

/-- The reference of the state-space mixer writes its result only, and leaves no semaphore raised. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- The reference of the input projection writes its result only, and leaves no semaphore raised. -/
theorem reference2_frame : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩) (Cert.Reference2Ideal.Value.run (F := Ideal) m ρ)

/-- The reference of the output projection writes its result only, and leaves no semaphore raised. -/
theorem reference3_frame : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩) (Cert.Reference3Ideal.Value.run (F := Ideal) m ρ)

/-- The reference of the product-key scores writes its result only, and leaves no semaphore raised. -/
theorem reference4_frame : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩) (Cert.Reference4Ideal.Value.run (F := Ideal) m ρ)

/-- The reference of the gated embedding writes its result only, and leaves no semaphore raised. -/
theorem reference5_frame : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩) (Cert.Reference5Ideal.Value.run (F := Ideal) m ρ)

/-- The reference of the projection to the steps writes its result only, and leaves no semaphore raised. -/
theorem reference6_frame : Cert.quiescent_Reference6Ideal (hReference6Ideal := Cert.Reference6Ideal.Gen.facts) :=
  fun m ρ _ => (θ_run Cert.Reference6Ideal.defs _ _).mono
    (fun r h => ⟨fun c => (h c).2, sem_eq_zero_of_no_sems (by decide) r.2⟩) (Cert.Reference6Ideal.Value.run (F := Ideal) m ρ)

/-- The reference of the norm of the input writes its result only, and leaves no semaphore raised. -/
theorem reference7_frame : Cert.quiescent_Reference7Ideal (hReference7Ideal := Cert.Reference7Ideal.Gen.facts) :=
  fun m ρ _ => (θ_run Cert.Reference7Ideal.defs _ _).mono
    (fun r h => ⟨fun c => (h c).2, sem_eq_zero_of_no_sems (by decide) r.2⟩) (Cert.Reference7Ideal.Value.run (F := Ideal) m ρ)

/-- All claims of the seven calls. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    fun m ρ _ => Cert.Kernel.Gen.frame m ρ,
    fun m ρ _ => Cert.KernelIdeal.Gen.frame m ρ,
    reference_frame,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    reference4_frame,
    fun m ρ _ => Cert.Kernel5.Gen.frame m ρ,
    fun m ρ _ => Cert.Kernel5Ideal.Gen.frame m ρ,
    reference5_frame,
    fun m ρ _ => Cert.Kernel6.Gen.frame m ρ,
    fun m ρ _ => Cert.Kernel6Ideal.Gen.frame m ρ,
    reference6_frame,
    fun m ρ _ => Cert.Kernel7.Gen.frame m ρ,
    fun m ρ _ => Cert.Kernel7Ideal.Gen.frame m ρ,
    reference7_frame,
    trivial,
    Cert.Ssd.algebraic,
    trivial,
    Cert.InProj.algebraic,
    trivial,
    Cert.OutProj.algebraic,
    trivial,
    Cert.Scores.algebraic,
    trivial,
    Cert.Ple.algebraic,
    trivial,
    Cert.DtProj.algebraic,
    trivial,
    Cert.LnIn.algebraic⟩

end Cert.Proof

end
